-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v341) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1280x200 : Shape := ⟨2, ![1280, 200]⟩
abbrev S1280 : Shape := ⟨1, ![1280]⟩
abbrev S1x1280x2 : Shape := ⟨3, ![1, 1280, 2]⟩
abbrev S3x200 : Shape := ⟨2, ![3, 200]⟩
abbrev S200x200 : Shape := ⟨2, ![200, 200]⟩
abbrev S200 : Shape := ⟨1, ![200]⟩
abbrev S4x400x200 : Shape := ⟨3, ![4, 400, 200]⟩
abbrev S1x1280x1 : Shape := ⟨3, ![1, 1280, 1]⟩
abbrev S1x200 : Shape := ⟨2, ![1, 200]⟩
abbrev S_ : Shape := ⟨0, ![]⟩

class Facts : Prop where
  slices_S1x1280x2_S1x1280x1_0_0_1 : S1x1280x2.Slices ![0, 0, 1] S1x1280x1
  shapeCasts_S1x1280x1_S1280 : S1x1280x1.ShapeCasts S1280
  slices_S1x1280x2_S1x1280x1_0_0_0 : S1x1280x2.Slices ![0, 0, 0] S1x1280x1
  bcast_S1280_S1280x200_0 : S1280.BroadcastsInDim S1280x200 (![0] : Fin 1 → Fin S1280x200.rank)
  slices_S3x200_S1x200_1_0 : S3x200.Slices ![1, 0] S1x200
  shapeCasts_S1x200_S200 : S1x200.ShapeCasts S200
  bcast_S200_S1280x200_1 : S200.BroadcastsInDim S1280x200 (![1] : Fin 1 → Fin S1280x200.rank)
  slices_S3x200_S1x200_0_0 : S3x200.Slices ![0, 0] S1x200
  bcast_S_S1280x200 : S_.BroadcastsInDim S1280x200 (![] : Fin 0 → Fin S1280x200.rank)
  reducesTo_S1280x200_S_d0_1 : S1280x200.ReducesTo [0, 1] S_
  h_S_ : 0 < S_.numel
  bcast_S_S200x200 : S_.BroadcastsInDim S200x200 (![] : Fin 0 → Fin S200x200.rank)
  reducesTo_S200x200_S_d0_1 : S200x200.ReducesTo [0, 1] S_
  bcast_S_S200 : S_.BroadcastsInDim S200 (![] : Fin 0 → Fin S200.rank)
  reducesTo_S200_S_d0 : S200.ReducesTo [0] S_
  bcast_S_S4x400x200 : S_.BroadcastsInDim S4x400x200 (![] : Fin 0 → Fin S4x400x200.rank)
  reducesTo_S4x400x200_S_d0_1_2 : S4x400x200.ReducesTo [0, 1, 2] S_
  reducesTo_S1280x200_S1280_d1 : S1280x200.ReducesTo [1] S1280
  bcast_S_S1280 : S_.BroadcastsInDim S1280 (![] : Fin 0 → Fin S1280.rank)
  reducesTo_S1280_S_d0 : S1280.ReducesTo [0] S_

variable [Facts]

def fn_part3 {F : FTy → Type} [FloatOps F] (main_v13 : FVec F S1280x200 .f32) (main_v48 : IVec S_ 1) (main_v53 : IVec S_ 1) : IVec S_ 1 :=
  let main_v54 : IVec S_ 1 := andi main_v48 main_v53
  let main_v55 : FVec F S1280x200 .f32 := mulf main_v13 main_v13
  let main_cst_16 : FVec F S_ .f32 := constant S_ .f32 0x00000000#32
  let main_v56 : FVec F S1280 .f32 := (fun x v => Host.reduceAdd x v reducesTo_S1280x200_S1280_d1 h_S_) main_v55 main_cst_16
  let main_cst_17 : FVec F S_ .f32 := constant S_ .f32 0x00000000#32
  let main_v57 : FVec F S1280 .f32 := broadcastInDim S1280 ![] bcast_S_S1280 main_cst_17
  let main_v58 : IVec S1280 1 := cmpf .ogt main_v56 main_v57
  let main_c_18 : IVec S_ 1 := constantI S_ 1 1#1
  let main_v59 : IVec S_ 1 := (fun x v => Host.reduce IntOp.andi x v reducesTo_S1280_S_d0 h_S_) main_v58 main_c_18
  let main_v60 : IVec S_ 1 := andi main_v54 main_v59
  main_v60

def fn_part2 {F : FTy → Type} [FloatOps F] (main_arg0 : FVec F S1280x200 .f32) (main_arg1 : FVec F S1280x200 .f32) (main_arg8 : FVec F S4x400x200 .f32) (main_v13 : FVec F S1280x200 .f32) (main_v37 : IVec S_ 1) : IVec S_ 1 :=
  let main_v38 : FVec F S4x400x200 .f32 := Host.absf main_arg8
  let main_cst_8 : FVec F S_ .f32 := constant S_ .f32 0x7F800000#32
  let main_v39 : FVec F S4x400x200 .f32 := broadcastInDim S4x400x200 ![] bcast_S_S4x400x200 main_cst_8
  let main_v40 : IVec S4x400x200 1 := cmpf .olt main_v38 main_v39
  let main_c_9 : IVec S_ 1 := constantI S_ 1 1#1
  let main_v41 : IVec S_ 1 := (fun x v => Host.reduce IntOp.andi x v reducesTo_S4x400x200_S_d0_1_2 h_S_) main_v40 main_c_9
  let main_v42 : IVec S_ 1 := andi main_v37 main_v41
  let main_v43 : FVec F S1280x200 .f32 := mulf main_arg0 main_arg0
  let main_cst_10 : FVec F S_ .f32 := constant S_ .f32 0x00000000#32
  let main_v44 : FVec F S1280 .f32 := (fun x v => Host.reduceAdd x v reducesTo_S1280x200_S1280_d1 h_S_) main_v43 main_cst_10
  let main_cst_11 : FVec F S_ .f32 := constant S_ .f32 0x00000000#32
  let main_v45 : FVec F S1280 .f32 := broadcastInDim S1280 ![] bcast_S_S1280 main_cst_11
  let main_v46 : IVec S1280 1 := cmpf .ogt main_v44 main_v45
  let main_c_12 : IVec S_ 1 := constantI S_ 1 1#1
  let main_v47 : IVec S_ 1 := (fun x v => Host.reduce IntOp.andi x v reducesTo_S1280_S_d0 h_S_) main_v46 main_c_12
  let main_v48 : IVec S_ 1 := andi main_v42 main_v47
  let main_v49 : FVec F S1280x200 .f32 := mulf main_arg1 main_arg1
  let main_cst_13 : FVec F S_ .f32 := constant S_ .f32 0x00000000#32
  let main_v50 : FVec F S1280 .f32 := (fun x v => Host.reduceAdd x v reducesTo_S1280x200_S1280_d1 h_S_) main_v49 main_cst_13
  let main_cst_14 : FVec F S_ .f32 := constant S_ .f32 0x00000000#32
  let main_v51 : FVec F S1280 .f32 := broadcastInDim S1280 ![] bcast_S_S1280 main_cst_14
  let main_v52 : IVec S1280 1 := cmpf .ogt main_v50 main_v51
  let main_c_15 : IVec S_ 1 := constantI S_ 1 1#1
  let main_v53 : IVec S_ 1 := (fun x v => Host.reduce IntOp.andi x v reducesTo_S1280_S_d0 h_S_) main_v52 main_c_15
  fn_part3 (F := F) main_v13 main_v48 main_v53

def fn_part1 {F : FTy → Type} [FloatOps F] (main_arg0 : FVec F S1280x200 .f32) (main_arg1 : FVec F S1280x200 .f32) (main_arg6 : FVec F S200x200 .f32) (main_arg7 : FVec F S200 .f32) (main_arg8 : FVec F S4x400x200 .f32) (main_v13 : FVec F S1280x200 .f32) (main_v17 : IVec S_ 1) (main_v20 : IVec S1280x200 1) : IVec S_ 1 :=
  let main_c_1 : IVec S_ 1 := constantI S_ 1 1#1
  let main_v21 : IVec S_ 1 := (fun x v => Host.reduce IntOp.andi x v reducesTo_S1280x200_S_d0_1 h_S_) main_v20 main_c_1
  let main_v22 : IVec S_ 1 := andi main_v17 main_v21
  let main_v23 : FVec F S1280x200 .f32 := Host.absf main_v13
  let main_cst_2 : FVec F S_ .f32 := constant S_ .f32 0x7F800000#32
  let main_v24 : FVec F S1280x200 .f32 := broadcastInDim S1280x200 ![] bcast_S_S1280x200 main_cst_2
  let main_v25 : IVec S1280x200 1 := cmpf .olt main_v23 main_v24
  let main_c_3 : IVec S_ 1 := constantI S_ 1 1#1
  let main_v26 : IVec S_ 1 := (fun x v => Host.reduce IntOp.andi x v reducesTo_S1280x200_S_d0_1 h_S_) main_v25 main_c_3
  let main_v27 : IVec S_ 1 := andi main_v22 main_v26
  let main_v28 : FVec F S200x200 .f32 := Host.absf main_arg6
  let main_cst_4 : FVec F S_ .f32 := constant S_ .f32 0x7F800000#32
  let main_v29 : FVec F S200x200 .f32 := broadcastInDim S200x200 ![] bcast_S_S200x200 main_cst_4
  let main_v30 : IVec S200x200 1 := cmpf .olt main_v28 main_v29
  let main_c_5 : IVec S_ 1 := constantI S_ 1 1#1
  let main_v31 : IVec S_ 1 := (fun x v => Host.reduce IntOp.andi x v reducesTo_S200x200_S_d0_1 h_S_) main_v30 main_c_5
  let main_v32 : IVec S_ 1 := andi main_v27 main_v31
  let main_v33 : FVec F S200 .f32 := Host.absf main_arg7
  let main_cst_6 : FVec F S_ .f32 := constant S_ .f32 0x7F800000#32
  let main_v34 : FVec F S200 .f32 := broadcastInDim S200 ![] bcast_S_S200 main_cst_6
  let main_v35 : IVec S200 1 := cmpf .olt main_v33 main_v34
  let main_c_7 : IVec S_ 1 := constantI S_ 1 1#1
  let main_v36 : IVec S_ 1 := (fun x v => Host.reduce IntOp.andi x v reducesTo_S200_S_d0 h_S_) main_v35 main_c_7
  let main_v37 : IVec S_ 1 := andi main_v32 main_v36
  fn_part2 (F := F) main_arg0 main_arg1 main_arg8 main_v13 main_v37

def fn {F : FTy → Type} [FloatOps F] (main_arg0 : FVec F S1280x200 .f32) (main_arg1 : FVec F S1280x200 .f32) (main_arg2 : FVec F S1280x200 .f32) (main_arg3 : IVec S1280 32) (main_arg4 : FVec F S1x1280x2 .f32) (main_arg5 : FVec F S3x200 .f32) (main_arg6 : FVec F S200x200 .f32) (main_arg7 : FVec F S200 .f32) (main_arg8 : FVec F S4x400x200 .f32) : IVec S_ 1 :=
  let main_v0 : FVec F S1x1280x1 .f32 := (extractStridedSlice S1x1280x1 ![0, 0, 1] · slices_S1x1280x2_S1x1280x1_0_0_1) main_arg4
  let main_v1 : FVec F S1280 .f32 := shapeCast S1280 main_v0 shapeCasts_S1x1280x1_S1280
  let main_v2 : FVec F S1x1280x1 .f32 := (extractStridedSlice S1x1280x1 ![0, 0, 0] · slices_S1x1280x2_S1x1280x1_0_0_0) main_arg4
  let main_v3 : FVec F S1280 .f32 := shapeCast S1280 main_v2 shapeCasts_S1x1280x1_S1280
  let main_v4 : IVec S1280 1 := cmpf .ogt main_v1 main_v3
  let main_v5 : IVec S1280x200 1 := broadcastInDim S1280x200 ![0] bcast_S1280_S1280x200_0 main_v4
  let main_v6 : FVec F S1x200 .f32 := (extractStridedSlice S1x200 ![1, 0] · slices_S3x200_S1x200_1_0) main_arg5
  let main_v7 : FVec F S200 .f32 := shapeCast S200 main_v6 shapeCasts_S1x200_S200
  let main_v8 : FVec F S1280x200 .f32 := broadcastInDim S1280x200 ![1] bcast_S200_S1280x200_1 main_v7
  let main_v9 : FVec F S1x200 .f32 := (extractStridedSlice S1x200 ![0, 0] · slices_S3x200_S1x200_0_0) main_arg5
  let main_v10 : FVec F S200 .f32 := shapeCast S200 main_v9 shapeCasts_S1x200_S200
  let main_v11 : FVec F S1280x200 .f32 := broadcastInDim S1280x200 ![1] bcast_S200_S1280x200_1 main_v10
  let main_v12 : FVec F S1280x200 .f32 := select main_v5 main_v8 main_v11
  let main_v13 : FVec F S1280x200 .f32 := addf main_arg2 main_v12
  let main_v14 : FVec F S1280x200 .f32 := Host.absf main_arg0
  let main_cst : FVec F S_ .f32 := constant S_ .f32 0x7F800000#32
  let main_v15 : FVec F S1280x200 .f32 := broadcastInDim S1280x200 ![] bcast_S_S1280x200 main_cst
  let main_v16 : IVec S1280x200 1 := cmpf .olt main_v14 main_v15
  let main_c : IVec S_ 1 := constantI S_ 1 1#1
  let main_v17 : IVec S_ 1 := (fun x v => Host.reduce IntOp.andi x v reducesTo_S1280x200_S_d0_1 h_S_) main_v16 main_c
  let main_v18 : FVec F S1280x200 .f32 := Host.absf main_arg1
  let main_cst_0 : FVec F S_ .f32 := constant S_ .f32 0x7F800000#32
  let main_v19 : FVec F S1280x200 .f32 := broadcastInDim S1280x200 ![] bcast_S_S1280x200 main_cst_0
  let main_v20 : IVec S1280x200 1 := cmpf .olt main_v18 main_v19
  fn_part1 (F := F) main_arg0 main_arg1 main_arg6 main_arg7 main_arg8 main_v13 main_v17 main_v20
-- ==== Kernel.lean ====
abbrev S1280x200 : Shape := ⟨2, ![1280, 200]⟩
abbrev S1280 : Shape := ⟨1, ![1280]⟩
abbrev S1x1280x2 : Shape := ⟨3, ![1, 1280, 2]⟩
abbrev S3x200 : Shape := ⟨2, ![3, 200]⟩
abbrev S200x200 : Shape := ⟨2, ![200, 200]⟩
abbrev S200 : Shape := ⟨1, ![200]⟩
abbrev S4x400x200 : Shape := ⟨3, ![4, 400, 200]⟩
abbrev S1280x2 : Shape := ⟨2, ![1280, 2]⟩
abbrev S1x200 : Shape := ⟨2, ![1, 200]⟩
abbrev S1280x1200 : Shape := ⟨2, ![1280, 1200]⟩
abbrev S640x200 : Shape := ⟨2, ![640, 200]⟩
abbrev S640x2 : Shape := ⟨2, ![640, 2]⟩
abbrev S640x1200 : Shape := ⟨2, ![640, 1200]⟩
abbrev S1x200x200 : Shape := ⟨3, ![1, 200, 200]⟩
abbrev S640x1 : Shape := ⟨2, ![640, 1]⟩
abbrev S640 : Shape := ⟨1, ![640]⟩

abbrev nBuf : Space → Nat
  | .hbm => 12
  | .vmem => 15
  | .smem => 0
  | _ => 0

abbrev bufTy : (tb : Table) → Fin (tcTables nBuf tb) → BufTy
  | .hbm, ⟨0, _⟩ => ⟨S1280x200, .f32⟩
  | .hbm, ⟨1, _⟩ => ⟨S1280x200, .f32⟩
  | .hbm, ⟨2, _⟩ => ⟨S1280x200, .f32⟩
  | .hbm, ⟨3, _⟩ => ⟨S1280, .i32⟩
  | .hbm, ⟨4, _⟩ => ⟨S1x1280x2, .f32⟩
  | .hbm, ⟨5, _⟩ => ⟨S3x200, .f32⟩
  | .hbm, ⟨6, _⟩ => ⟨S200x200, .f32⟩
  | .hbm, ⟨7, _⟩ => ⟨S200, .f32⟩
  | .hbm, ⟨8, _⟩ => ⟨S4x400x200, .f32⟩
  | .hbm, ⟨9, _⟩ => ⟨S1280x2, .f32⟩
  | .hbm, ⟨10, _⟩ => ⟨S1x200, .f32⟩
  | .hbm, ⟨11, _⟩ => ⟨S1280x1200, .f32⟩
  | .local _ .vmem, ⟨0, _⟩ => ⟨S640x200, .f32⟩
  | .local _ .vmem, ⟨1, _⟩ => ⟨S640x200, .f32⟩
  | .local _ .vmem, ⟨2, _⟩ => ⟨S640x200, .f32⟩
  | .local _ .vmem, ⟨3, _⟩ => ⟨S640x200, .f32⟩
  | .local _ .vmem, ⟨4, _⟩ => ⟨S640x200, .f32⟩
  | .local _ .vmem, ⟨5, _⟩ => ⟨S640x200, .f32⟩
  | .local _ .vmem, ⟨6, _⟩ => ⟨S640x2, .f32⟩
  | .local _ .vmem, ⟨7, _⟩ => ⟨S640x2, .f32⟩
  | .local _ .vmem, ⟨8, _⟩ => ⟨S3x200, .f32⟩
  | .local _ .vmem, ⟨9, _⟩ => ⟨S200x200, .f32⟩
  | .local _ .vmem, ⟨10, _⟩ => ⟨S1x200, .f32⟩
  | .local _ .vmem, ⟨11, _⟩ => ⟨S4x400x200, .f32⟩
  | .local _ .vmem, ⟨12, _⟩ => ⟨S640x1200, .f32⟩
  | .local _ .vmem, ⟨13, _⟩ => ⟨S640x1200, .f32⟩
  | .local _ .vmem, ⟨14, _⟩ => ⟨S4x400x200, .bf16⟩
  | _, _ => ⟨S1280x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x400x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x1200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1280x200 : Shape := ⟨2, ![1280, 200]⟩
abbrev S1280 : Shape := ⟨1, ![1280]⟩
abbrev S1x1280x2 : Shape := ⟨3, ![1, 1280, 2]⟩
abbrev S3x200 : Shape := ⟨2, ![3, 200]⟩
abbrev S200x200 : Shape := ⟨2, ![200, 200]⟩
abbrev S200 : Shape := ⟨1, ![200]⟩
abbrev S4x400x200 : Shape := ⟨3, ![4, 400, 200]⟩
abbrev S1280x2 : Shape := ⟨2, ![1280, 2]⟩
abbrev S_ : Shape := ⟨0, ![]⟩
abbrev S1280x1 : Shape := ⟨2, ![1280, 1]⟩
abbrev S2 : Shape := ⟨1, ![2]⟩
abbrev S1 : Shape := ⟨1, ![1]⟩
abbrev S1x1 : Shape := ⟨2, ![1, 1]⟩
abbrev S1x1280x200 : Shape := ⟨3, ![1, 1280, 200]⟩
abbrev S3x1280x200 : Shape := ⟨3, ![3, 1280, 200]⟩
abbrev S3x1280 : Shape := ⟨2, ![3, 1280]⟩
abbrev S3x1280x1 : Shape := ⟨3, ![3, 1280, 1]⟩
abbrev S1280x3x3 : Shape := ⟨3, ![1280, 3, 3]⟩
abbrev S3x3x1280 : Shape := ⟨3, ![3, 3, 1280]⟩
abbrev S3840x3840 : Shape := ⟨2, ![3840, 3840]⟩
abbrev S1x1x1280 : Shape := ⟨3, ![1, 1, 1280]⟩
abbrev S3840 : Shape := ⟨1, ![3840]⟩
abbrev S3840x1 : Shape := ⟨2, ![3840, 1]⟩
abbrev S1x3840 : Shape := ⟨2, ![1, 3840]⟩
abbrev S3840x200 : Shape := ⟨2, ![3840, 200]⟩
abbrev S1x200 : Shape := ⟨2, ![1, 200]⟩
abbrev S3840x400 : Shape := ⟨2, ![3840, 400]⟩
abbrev S1x400x200 : Shape := ⟨3, ![1, 400, 200]⟩
abbrev S400x200 : Shape := ⟨2, ![400, 200]⟩
abbrev S1280x400 : Shape := ⟨2, ![1280, 400]⟩
abbrev S1280x1200 : Shape := ⟨2, ![1280, 1200]⟩

abbrev nBuf : Space → Nat
  | .hbm => 470
  | .vmem => 0
  | .smem => 0
  | _ => 0

abbrev hbmTy0_0 (i : Nat) : BufTy := match i % 128 with
  | 0 => ⟨S1280x200, .f32⟩
  | 1 => ⟨S1280x200, .f32⟩
  | 2 => ⟨S1280x200, .f32⟩
  | 3 => ⟨S1280, .i32⟩
  | 4 => ⟨S1x1280x2, .f32⟩
  | 5 => ⟨S3x200, .f32⟩
  | 6 => ⟨S200x200, .f32⟩
  | 7 => ⟨S200, .f32⟩
  | 8 => ⟨S4x400x200, .f32⟩
  | 9 => ⟨S1280x2, .f32⟩
  | 10 => ⟨S_, .f32⟩
  | 11 => ⟨S1280, .f32⟩
  | 12 => ⟨S1280x1, .f32⟩
  | 13 => ⟨S1280x2, .f32⟩
  | 14 => ⟨S1280x2, .i1⟩
  | 15 => ⟨S2, .i32⟩
  | 16 => ⟨S_, .i32⟩
  | 17 => ⟨S_, .i32⟩
  | 18 => ⟨S1280x2, .i32⟩
  | 19 => ⟨S1280x2, .i32⟩
  | 20 => ⟨S1280x2, .i32⟩
  | 21 => ⟨S_, .i32⟩
  | 22 => ⟨S1280, .i32⟩
  | 23 => ⟨S_, .i32⟩
  | 24 => ⟨S1280, .i32⟩
  | 25 => ⟨S1280, .i1⟩
  | 26 => ⟨S_, .i32⟩
  | 27 => ⟨S1280, .i32⟩
  | 28 => ⟨S1280, .i32⟩
  | 29 => ⟨S1280, .i32⟩
  | 30 => ⟨S1280x1, .i32⟩
  | 31 => ⟨S1, .i32⟩
  | 32 => ⟨S_, .i32⟩
  | 33 => ⟨S1280x1, .i32⟩
  | 34 => ⟨S1280x1, .i1⟩
  | 35 => ⟨S1x1, .i32⟩
  | 36 => ⟨S1280x1, .i32⟩
  | 37 => ⟨S1280x1, .i1⟩
  | 38 => ⟨S1280x1, .i1⟩
  | 39 => ⟨S_, .i1⟩
  | 40 => ⟨S1280, .i1⟩
  | 41 => ⟨S1280x200, .f32⟩
  | 42 => ⟨S1280x200, .i1⟩
  | 43 => ⟨S_, .f32⟩
  | 44 => ⟨S1280x200, .f32⟩
  | 45 => ⟨S1280x200, .f32⟩
  | 46 => ⟨S1280x200, .f32⟩
  | 47 => ⟨S1x1280x200, .f32⟩
  | 48 => ⟨S1x1280x200, .f32⟩
  | 49 => ⟨S1x1280x200, .f32⟩
  | 50 => ⟨S3x1280x200, .f32⟩
  | 51 => ⟨S3x1280x200, .f32⟩
  | 52 => ⟨S_, .f32⟩
  | 53 => ⟨S3x1280, .f32⟩
  | 54 => ⟨S3x1280x1, .f32⟩
  | 55 => ⟨S3x1280x1, .f32⟩
  | 56 => ⟨S3x1280x200, .f32⟩
  | 57 => ⟨S3x1280x200, .f32⟩
  | 58 => ⟨S1280x3x3, .f32⟩
  | 59 => ⟨S3x3x1280, .f32⟩
  | 60 => ⟨S_, .f32⟩
  | 61 => ⟨S3x3x1280, .f32⟩
  | 62 => ⟨S3x3x1280, .f32⟩
  | 63 => ⟨S3x3x1280, .f32⟩
  | 64 => ⟨S_, .f32⟩
  | 65 => ⟨S3x3x1280, .f32⟩
  | 66 => ⟨S_, .f32⟩
  | 67 => ⟨S3x3x1280, .f32⟩
  | 68 => ⟨S3x3x1280, .f32⟩
  | 69 => ⟨S_, .f32⟩
  | 70 => ⟨S3x3x1280, .f32⟩
  | 71 => ⟨S3x3x1280, .f32⟩
  | 72 => ⟨S_, .f32⟩
  | 73 => ⟨S3x3x1280, .f32⟩
  | 74 => ⟨S3x3x1280, .f32⟩
  | 75 => ⟨S3x3x1280, .f32⟩
  | 76 => ⟨S3x3x1280, .f32⟩
  | 77 => ⟨S_, .f32⟩
  | 78 => ⟨S3x3x1280, .f32⟩
  | 79 => ⟨S3x3x1280, .f32⟩
  | 80 => ⟨S3x3x1280, .f32⟩
  | 81 => ⟨S3x3x1280, .f32⟩
  | 82 => ⟨S3x3x1280, .f32⟩
  | 83 => ⟨S_, .f32⟩
  | 84 => ⟨S3x3x1280, .f32⟩
  | 85 => ⟨S3x3x1280, .f32⟩
  | 86 => ⟨S3x3x1280, .f32⟩
  | 87 => ⟨S3x3x1280, .f32⟩
  | 88 => ⟨S3x3x1280, .f32⟩
  | 89 => ⟨S_, .f32⟩
  | 90 => ⟨S3x3x1280, .f32⟩
  | 91 => ⟨S3x3x1280, .f32⟩
  | 92 => ⟨S3x3x1280, .f32⟩
  | 93 => ⟨S3x3x1280, .f32⟩
  | 94 => ⟨S3x3x1280, .f32⟩
  | 95 => ⟨S3x3x1280, .f32⟩
  | 96 => ⟨S_, .f32⟩
  | 97 => ⟨S3x3x1280, .f32⟩
  | 98 => ⟨S3x3x1280, .f32⟩
  | 99 => ⟨S3x3x1280, .f32⟩
  | 100 => ⟨S3x3x1280, .f32⟩
  | 101 => ⟨S3x3x1280, .f32⟩
  | 102 => ⟨S3x3x1280, .f32⟩
  | 103 => ⟨S_, .f32⟩
  | 104 => ⟨S3x3x1280, .f32⟩
  | 105 => ⟨S3x3x1280, .f32⟩
  | 106 => ⟨S3x3x1280, .f32⟩
  | 107 => ⟨S3x3x1280, .f32⟩
  | 108 => ⟨S3x3x1280, .f32⟩
  | 109 => ⟨S3x3x1280, .f32⟩
  | 110 => ⟨S3x3x1280, .f32⟩
  | 111 => ⟨S_, .f32⟩
  | 112 => ⟨S3x3x1280, .f32⟩
  | 113 => ⟨S3x3x1280, .f32⟩
  | 114 => ⟨S3x3x1280, .f32⟩
  | 115 => ⟨S_, .f32⟩
  | 116 => ⟨S3x3x1280, .f32⟩
  | 117 => ⟨S3x3x1280, .f32⟩
  | 118 => ⟨S3x3x1280, .f32⟩
  | 119 => ⟨S3x3x1280, .f32⟩
  | 120 => ⟨S_, .f32⟩
  | 121 => ⟨S3x3x1280, .f32⟩
  | 122 => ⟨S3x3x1280, .i1⟩
  | 123 => ⟨S_, .f32⟩
  | 124 => ⟨S3x3x1280, .f32⟩
  | 125 => ⟨S3x3x1280, .f32⟩
  | 126 => ⟨S3x3x1280, .f32⟩
  | 127 => ⟨S_, .f32⟩
  | _ => ⟨S1280x200, .f32⟩

abbrev hbmTy0_1 (i : Nat) : BufTy := match i % 128 with
  | 0 => ⟨S3x3x1280, .f32⟩
  | 1 => ⟨S3x3x1280, .f32⟩
  | 2 => ⟨S_, .f32⟩
  | 3 => ⟨S3x3x1280, .f32⟩
  | 4 => ⟨S3x3x1280, .f32⟩
  | 5 => ⟨S_, .f32⟩
  | 6 => ⟨S3840x3840, .f32⟩
  | 7 => ⟨S1280, .i32⟩
  | 8 => ⟨S_, .i32⟩
  | 9 => ⟨S1280, .i32⟩
  | 10 => ⟨S1280, .i32⟩
  | 11 => ⟨S_, .i32⟩
  | 12 => ⟨S1280, .i32⟩
  | 13 => ⟨S1280, .i32⟩
  | 14 => ⟨S1x1x1280, .f32⟩
  | 15 => ⟨S1280, .f32⟩
  | 16 => ⟨S_, .i32⟩
  | 17 => ⟨S1280, .i32⟩
  | 18 => ⟨S1280, .i1⟩
  | 19 => ⟨S_, .i32⟩
  | 20 => ⟨S1280, .i32⟩
  | 21 => ⟨S1280, .i32⟩
  | 22 => ⟨S1280, .i32⟩
  | 23 => ⟨S_, .i32⟩
  | 24 => ⟨S1280, .i32⟩
  | 25 => ⟨S1280, .i1⟩
  | 26 => ⟨S_, .i32⟩
  | 27 => ⟨S1280, .i32⟩
  | 28 => ⟨S1280, .i32⟩
  | 29 => ⟨S1280, .i32⟩
  | 30 => ⟨S1280x1, .i32⟩
  | 31 => ⟨S1280x1, .i32⟩
  | 32 => ⟨S1280x2, .i32⟩
  | 33 => ⟨S3840x3840, .f32⟩
  | 34 => ⟨S_, .i32⟩
  | 35 => ⟨S1280, .i32⟩
  | 36 => ⟨S1280, .i32⟩
  | 37 => ⟨S_, .i32⟩
  | 38 => ⟨S1280, .i32⟩
  | 39 => ⟨S1280, .i32⟩
  | 40 => ⟨S1x1x1280, .f32⟩
  | 41 => ⟨S1280, .f32⟩
  | 42 => ⟨S_, .i32⟩
  | 43 => ⟨S1280, .i32⟩
  | 44 => ⟨S1280, .i1⟩
  | 45 => ⟨S_, .i32⟩
  | 46 => ⟨S1280, .i32⟩
  | 47 => ⟨S1280, .i32⟩
  | 48 => ⟨S1280, .i32⟩
  | 49 => ⟨S_, .i32⟩
  | 50 => ⟨S1280, .i32⟩
  | 51 => ⟨S1280, .i1⟩
  | 52 => ⟨S_, .i32⟩
  | 53 => ⟨S1280, .i32⟩
  | 54 => ⟨S1280, .i32⟩
  | 55 => ⟨S1280, .i32⟩
  | 56 => ⟨S1280x1, .i32⟩
  | 57 => ⟨S1280x1, .i32⟩
  | 58 => ⟨S1280x2, .i32⟩
  | 59 => ⟨S3840x3840, .f32⟩
  | 60 => ⟨S_, .i32⟩
  | 61 => ⟨S1280, .i32⟩
  | 62 => ⟨S1280, .i32⟩
  | 63 => ⟨S_, .i32⟩
  | 64 => ⟨S1280, .i32⟩
  | 65 => ⟨S1280, .i32⟩
  | 66 => ⟨S1x1x1280, .f32⟩
  | 67 => ⟨S1280, .f32⟩
  | 68 => ⟨S_, .i32⟩
  | 69 => ⟨S1280, .i32⟩
  | 70 => ⟨S1280, .i1⟩
  | 71 => ⟨S_, .i32⟩
  | 72 => ⟨S1280, .i32⟩
  | 73 => ⟨S1280, .i32⟩
  | 74 => ⟨S1280, .i32⟩
  | 75 => ⟨S_, .i32⟩
  | 76 => ⟨S1280, .i32⟩
  | 77 => ⟨S1280, .i1⟩
  | 78 => ⟨S_, .i32⟩
  | 79 => ⟨S1280, .i32⟩
  | 80 => ⟨S1280, .i32⟩
  | 81 => ⟨S1280, .i32⟩
  | 82 => ⟨S1280x1, .i32⟩
  | 83 => ⟨S1280x1, .i32⟩
  | 84 => ⟨S1280x2, .i32⟩
  | 85 => ⟨S3840x3840, .f32⟩
  | 86 => ⟨S_, .i32⟩
  | 87 => ⟨S1280, .i32⟩
  | 88 => ⟨S1280, .i32⟩
  | 89 => ⟨S_, .i32⟩
  | 90 => ⟨S1280, .i32⟩
  | 91 => ⟨S1280, .i32⟩
  | 92 => ⟨S1x1x1280, .f32⟩
  | 93 => ⟨S1280, .f32⟩
  | 94 => ⟨S_, .i32⟩
  | 95 => ⟨S1280, .i32⟩
  | 96 => ⟨S1280, .i1⟩
  | 97 => ⟨S_, .i32⟩
  | 98 => ⟨S1280, .i32⟩
  | 99 => ⟨S1280, .i32⟩
  | 100 => ⟨S1280, .i32⟩
  | 101 => ⟨S_, .i32⟩
  | 102 => ⟨S1280, .i32⟩
  | 103 => ⟨S1280, .i1⟩
  | 104 => ⟨S_, .i32⟩
  | 105 => ⟨S1280, .i32⟩
  | 106 => ⟨S1280, .i32⟩
  | 107 => ⟨S1280, .i32⟩
  | 108 => ⟨S1280x1, .i32⟩
  | 109 => ⟨S1280x1, .i32⟩
  | 110 => ⟨S1280x2, .i32⟩
  | 111 => ⟨S3840x3840, .f32⟩
  | 112 => ⟨S_, .i32⟩
  | 113 => ⟨S1280, .i32⟩
  | 114 => ⟨S1280, .i32⟩
  | 115 => ⟨S_, .i32⟩
  | 116 => ⟨S1280, .i32⟩
  | 117 => ⟨S1280, .i32⟩
  | 118 => ⟨S1x1x1280, .f32⟩
  | 119 => ⟨S1280, .f32⟩
  | 120 => ⟨S_, .i32⟩
  | 121 => ⟨S1280, .i32⟩
  | 122 => ⟨S1280, .i1⟩
  | 123 => ⟨S_, .i32⟩
  | 124 => ⟨S1280, .i32⟩
  | 125 => ⟨S1280, .i32⟩
  | 126 => ⟨S1280, .i32⟩
  | 127 => ⟨S_, .i32⟩
  | _ => ⟨S1280x200, .f32⟩

abbrev hbmTy0_2 (i : Nat) : BufTy := match i % 128 with
  | 0 => ⟨S1280, .i32⟩
  | 1 => ⟨S1280, .i1⟩
  | 2 => ⟨S_, .i32⟩
  | 3 => ⟨S1280, .i32⟩
  | 4 => ⟨S1280, .i32⟩
  | 5 => ⟨S1280, .i32⟩
  | 6 => ⟨S1280x1, .i32⟩
  | 7 => ⟨S1280x1, .i32⟩
  | 8 => ⟨S1280x2, .i32⟩
  | 9 => ⟨S3840x3840, .f32⟩
  | 10 => ⟨S_, .i32⟩
  | 11 => ⟨S1280, .i32⟩
  | 12 => ⟨S1280, .i32⟩
  | 13 => ⟨S_, .i32⟩
  | 14 => ⟨S1280, .i32⟩
  | 15 => ⟨S1280, .i32⟩
  | 16 => ⟨S1x1x1280, .f32⟩
  | 17 => ⟨S1280, .f32⟩
  | 18 => ⟨S_, .i32⟩
  | 19 => ⟨S1280, .i32⟩
  | 20 => ⟨S1280, .i1⟩
  | 21 => ⟨S_, .i32⟩
  | 22 => ⟨S1280, .i32⟩
  | 23 => ⟨S1280, .i32⟩
  | 24 => ⟨S1280, .i32⟩
  | 25 => ⟨S_, .i32⟩
  | 26 => ⟨S1280, .i32⟩
  | 27 => ⟨S1280, .i1⟩
  | 28 => ⟨S_, .i32⟩
  | 29 => ⟨S1280, .i32⟩
  | 30 => ⟨S1280, .i32⟩
  | 31 => ⟨S1280, .i32⟩
  | 32 => ⟨S1280x1, .i32⟩
  | 33 => ⟨S1280x1, .i32⟩
  | 34 => ⟨S1280x2, .i32⟩
  | 35 => ⟨S3840x3840, .f32⟩
  | 36 => ⟨S_, .i32⟩
  | 37 => ⟨S1280, .i32⟩
  | 38 => ⟨S1280, .i32⟩
  | 39 => ⟨S_, .i32⟩
  | 40 => ⟨S1280, .i32⟩
  | 41 => ⟨S1280, .i32⟩
  | 42 => ⟨S1x1x1280, .f32⟩
  | 43 => ⟨S1280, .f32⟩
  | 44 => ⟨S_, .i32⟩
  | 45 => ⟨S1280, .i32⟩
  | 46 => ⟨S1280, .i1⟩
  | 47 => ⟨S_, .i32⟩
  | 48 => ⟨S1280, .i32⟩
  | 49 => ⟨S1280, .i32⟩
  | 50 => ⟨S1280, .i32⟩
  | 51 => ⟨S_, .i32⟩
  | 52 => ⟨S1280, .i32⟩
  | 53 => ⟨S1280, .i1⟩
  | 54 => ⟨S_, .i32⟩
  | 55 => ⟨S1280, .i32⟩
  | 56 => ⟨S1280, .i32⟩
  | 57 => ⟨S1280, .i32⟩
  | 58 => ⟨S1280x1, .i32⟩
  | 59 => ⟨S1280x1, .i32⟩
  | 60 => ⟨S1280x2, .i32⟩
  | 61 => ⟨S3840x3840, .f32⟩
  | 62 => ⟨S_, .i32⟩
  | 63 => ⟨S1280, .i32⟩
  | 64 => ⟨S1280, .i32⟩
  | 65 => ⟨S_, .i32⟩
  | 66 => ⟨S1280, .i32⟩
  | 67 => ⟨S1280, .i32⟩
  | 68 => ⟨S1x1x1280, .f32⟩
  | 69 => ⟨S1280, .f32⟩
  | 70 => ⟨S_, .i32⟩
  | 71 => ⟨S1280, .i32⟩
  | 72 => ⟨S1280, .i1⟩
  | 73 => ⟨S_, .i32⟩
  | 74 => ⟨S1280, .i32⟩
  | 75 => ⟨S1280, .i32⟩
  | 76 => ⟨S1280, .i32⟩
  | 77 => ⟨S_, .i32⟩
  | 78 => ⟨S1280, .i32⟩
  | 79 => ⟨S1280, .i1⟩
  | 80 => ⟨S_, .i32⟩
  | 81 => ⟨S1280, .i32⟩
  | 82 => ⟨S1280, .i32⟩
  | 83 => ⟨S1280, .i32⟩
  | 84 => ⟨S1280x1, .i32⟩
  | 85 => ⟨S1280x1, .i32⟩
  | 86 => ⟨S1280x2, .i32⟩
  | 87 => ⟨S3840x3840, .f32⟩
  | 88 => ⟨S_, .i32⟩
  | 89 => ⟨S1280, .i32⟩
  | 90 => ⟨S1280, .i32⟩
  | 91 => ⟨S_, .i32⟩
  | 92 => ⟨S1280, .i32⟩
  | 93 => ⟨S1280, .i32⟩
  | 94 => ⟨S1x1x1280, .f32⟩
  | 95 => ⟨S1280, .f32⟩
  | 96 => ⟨S_, .i32⟩
  | 97 => ⟨S1280, .i32⟩
  | 98 => ⟨S1280, .i1⟩
  | 99 => ⟨S_, .i32⟩
  | 100 => ⟨S1280, .i32⟩
  | 101 => ⟨S1280, .i32⟩
  | 102 => ⟨S1280, .i32⟩
  | 103 => ⟨S_, .i32⟩
  | 104 => ⟨S1280, .i32⟩
  | 105 => ⟨S1280, .i1⟩
  | 106 => ⟨S_, .i32⟩
  | 107 => ⟨S1280, .i32⟩
  | 108 => ⟨S1280, .i32⟩
  | 109 => ⟨S1280, .i32⟩
  | 110 => ⟨S1280x1, .i32⟩
  | 111 => ⟨S1280x1, .i32⟩
  | 112 => ⟨S1280x2, .i32⟩
  | 113 => ⟨S3840x3840, .f32⟩
  | 114 => ⟨S_, .f32⟩
  | 115 => ⟨S3840, .f32⟩
  | 116 => ⟨S_, .f32⟩
  | 117 => ⟨S3840, .f32⟩
  | 118 => ⟨S3840, .f32⟩
  | 119 => ⟨S3840x1, .f32⟩
  | 120 => ⟨S3840x3840, .f32⟩
  | 121 => ⟨S3840x3840, .f32⟩
  | 122 => ⟨S1x3840, .f32⟩
  | 123 => ⟨S3840x3840, .f32⟩
  | 124 => ⟨S3840x3840, .f32⟩
  | 125 => ⟨S3840x200, .f32⟩
  | 126 => ⟨S3840x200, .f32⟩
  | 127 => ⟨S1x200, .f32⟩
  | _ => ⟨S1280x200, .f32⟩

abbrev hbmTy0_3 (i : Nat) : BufTy := match i % 128 with
  | 0 => ⟨S3840x200, .f32⟩
  | 1 => ⟨S3840x200, .f32⟩
  | 2 => ⟨S_, .f32⟩
  | 3 => ⟨S3840x200, .f32⟩
  | 4 => ⟨S3840x200, .f32⟩
  | 5 => ⟨S3840x200, .f32⟩
  | 6 => ⟨S3840x400, .f32⟩
  | 7 => ⟨S_, .f32⟩
  | 8 => ⟨S3840x200, .f32⟩
  | 9 => ⟨S3840x200, .f32⟩
  | 10 => ⟨S_, .f32⟩
  | 11 => ⟨S3840x200, .f32⟩
  | 12 => ⟨S3840x200, .f32⟩
  | 13 => ⟨S3840x200, .f32⟩
  | 14 => ⟨S1x400x200, .f32⟩
  | 15 => ⟨S400x200, .f32⟩
  | 16 => ⟨S3840x200, .f32⟩
  | 17 => ⟨S_, .f32⟩
  | 18 => ⟨S3840x200, .f32⟩
  | 19 => ⟨S3840x200, .f32⟩
  | 20 => ⟨S3840x200, .f32⟩
  | 21 => ⟨S_, .f32⟩
  | 22 => ⟨S3840x200, .f32⟩
  | 23 => ⟨S3840x200, .f32⟩
  | 24 => ⟨S3840x200, .f32⟩
  | 25 => ⟨S3840x400, .f32⟩
  | 26 => ⟨S_, .f32⟩
  | 27 => ⟨S3840x200, .f32⟩
  | 28 => ⟨S3840x200, .f32⟩
  | 29 => ⟨S_, .f32⟩
  | 30 => ⟨S3840x200, .f32⟩
  | 31 => ⟨S3840x200, .f32⟩
  | 32 => ⟨S3840x200, .f32⟩
  | 33 => ⟨S1x400x200, .f32⟩
  | 34 => ⟨S400x200, .f32⟩
  | 35 => ⟨S3840x200, .f32⟩
  | 36 => ⟨S_, .f32⟩
  | 37 => ⟨S3840x200, .f32⟩
  | 38 => ⟨S3840x200, .f32⟩
  | 39 => ⟨S3840x200, .f32⟩
  | 40 => ⟨S_, .f32⟩
  | 41 => ⟨S3840x200, .f32⟩
  | 42 => ⟨S3840x200, .f32⟩
  | 43 => ⟨S3840x200, .f32⟩
  | 44 => ⟨S3840x400, .f32⟩
  | 45 => ⟨S_, .f32⟩
  | 46 => ⟨S3840x200, .f32⟩
  | 47 => ⟨S3840x200, .f32⟩
  | 48 => ⟨S_, .f32⟩
  | 49 => ⟨S3840x200, .f32⟩
  | 50 => ⟨S3840x200, .f32⟩
  | 51 => ⟨S3840x200, .f32⟩
  | 52 => ⟨S1x400x200, .f32⟩
  | 53 => ⟨S400x200, .f32⟩
  | 54 => ⟨S3840x200, .f32⟩
  | 55 => ⟨S_, .f32⟩
  | 56 => ⟨S3840x200, .f32⟩
  | 57 => ⟨S3840x200, .f32⟩
  | 58 => ⟨S3840x200, .f32⟩
  | 59 => ⟨S_, .f32⟩
  | 60 => ⟨S3840x200, .f32⟩
  | 61 => ⟨S3840x200, .f32⟩
  | 62 => ⟨S3840x200, .f32⟩
  | 63 => ⟨S3840x400, .f32⟩
  | 64 => ⟨S_, .f32⟩
  | 65 => ⟨S3840x200, .f32⟩
  | 66 => ⟨S3840x200, .f32⟩
  | 67 => ⟨S_, .f32⟩
  | 68 => ⟨S3840x200, .f32⟩
  | 69 => ⟨S3840x200, .f32⟩
  | 70 => ⟨S3840x200, .f32⟩
  | 71 => ⟨S1x400x200, .f32⟩
  | 72 => ⟨S400x200, .f32⟩
  | 73 => ⟨S3840x200, .f32⟩
  | 74 => ⟨S_, .f32⟩
  | 75 => ⟨S3840x200, .f32⟩
  | 76 => ⟨S3840x200, .f32⟩
  | 77 => ⟨S3840x200, .f32⟩
  | 78 => ⟨S_, .f32⟩
  | 79 => ⟨S3840x200, .f32⟩
  | 80 => ⟨S3840x200, .f32⟩
  | 81 => ⟨S3840x400, .f32⟩
  | 82 => ⟨S1280x400, .f32⟩
  | 83 => ⟨S1280x400, .f32⟩
  | 84 => ⟨S1280x400, .f32⟩
  | 85 => ⟨S1280x1200, .f32⟩
  | _ => ⟨S1280x200, .f32⟩

abbrev hbmTy (i : Nat) : BufTy := match i / 128 with
  | 0 => hbmTy0_0 i
  | 1 => hbmTy0_1 i
  | 2 => hbmTy0_2 i
  | 3 => hbmTy0_3 i
  | _ => ⟨S1280x200, .f32⟩

abbrev bufTy : (tb : Table) → Fin (tcTables nBuf tb) → BufTy
  | .hbm, ⟨i, _⟩ => hbmTy i
  | _, _ => ⟨S1280x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_3 : Ref sig .tc := ⟨.hbm, 64, rfl⟩
abbrev main_v25 : Ref sig .tc := ⟨.hbm, 65, rfl⟩
abbrev main_cst_4 : Ref sig .tc := ⟨.hbm, 66, rfl⟩
abbrev main_v26 : Ref sig .tc := ⟨.hbm, 67, rfl⟩
abbrev main_v27 : Ref sig .tc := ⟨.hbm, 68, rfl⟩
abbrev main_cst_5 : Ref sig .tc := ⟨.hbm, 69, rfl⟩
abbrev main_v28 : Ref sig .tc := ⟨.hbm, 70, rfl⟩
abbrev main_v29 : Ref sig .tc := ⟨.hbm, 71, rfl⟩
abbrev main_cst_6 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_7 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_8 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_9 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_10 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_11 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_12 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_13 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_14 : Ref sig .tc := ⟨.hbm, 120, rfl⟩
abbrev main_v70 : Ref sig .tc := ⟨.hbm, 121, rfl⟩
abbrev main_v71 : Ref sig .tc := ⟨.hbm, 122, rfl⟩
abbrev main_cst_15 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_16 : Ref sig .tc := ⟨.hbm, 127, rfl⟩
abbrev main_v75 : Ref sig .tc := ⟨.hbm, 128, rfl⟩
abbrev main_v76 : Ref sig .tc := ⟨.hbm, 129, rfl⟩
abbrev main_cst_17 : Ref sig .tc := ⟨.hbm, 130, rfl⟩
abbrev main_v77 : Ref sig .tc := ⟨.hbm, 131, rfl⟩
abbrev main_v78 : Ref sig .tc := ⟨.hbm, 132, rfl⟩
abbrev main_cst_18 : Ref sig .tc := ⟨.hbm, 133, rfl⟩
abbrev main_v79 : Ref sig .tc := ⟨.hbm, 134, rfl⟩
abbrev main_v80 : Ref sig .tc := ⟨.hbm, 135, rfl⟩
abbrev main_c_19 : Ref sig .tc := ⟨.hbm, 136, rfl⟩
abbrev main_v81 : Ref sig .tc := ⟨.hbm, 137, rfl⟩
abbrev main_v82 : Ref sig .tc := ⟨.hbm, 138, rfl⟩
abbrev main_c_20 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_c_21 : Ref sig .tc := ⟨.hbm, 144, rfl⟩
abbrev main_v87 : Ref sig .tc := ⟨.hbm, 145, rfl⟩
abbrev main_v88 : Ref sig .tc := ⟨.hbm, 146, rfl⟩
abbrev main_c_22 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_c_23 : Ref sig .tc := ⟨.hbm, 151, rfl⟩
abbrev main_v92 : Ref sig .tc := ⟨.hbm, 152, rfl⟩
abbrev main_v93 : Ref sig .tc := ⟨.hbm, 153, rfl⟩
abbrev main_c_24 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_c_25 : Ref sig .tc := ⟨.hbm, 162, rfl⟩
abbrev main_v101 : Ref sig .tc := ⟨.hbm, 163, rfl⟩
abbrev main_v102 : Ref sig .tc := ⟨.hbm, 164, rfl⟩
abbrev main_c_26 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_c_27 : Ref sig .tc := ⟨.hbm, 170, rfl⟩
abbrev main_v107 : Ref sig .tc := ⟨.hbm, 171, rfl⟩
abbrev main_v108 : Ref sig .tc := ⟨.hbm, 172, rfl⟩
abbrev main_c_28 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_c_29 : Ref sig .tc := ⟨.hbm, 177, rfl⟩
abbrev main_v112 : Ref sig .tc := ⟨.hbm, 178, rfl⟩
abbrev main_v113 : Ref sig .tc := ⟨.hbm, 179, rfl⟩
abbrev main_c_30 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_31 : Ref sig .tc := ⟨.hbm, 188, rfl⟩
abbrev main_v121 : Ref sig .tc := ⟨.hbm, 189, rfl⟩
abbrev main_v122 : Ref sig .tc := ⟨.hbm, 190, rfl⟩
abbrev main_c_32 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_c_33 : Ref sig .tc := ⟨.hbm, 196, rfl⟩
abbrev main_v127 : Ref sig .tc := ⟨.hbm, 197, rfl⟩
abbrev main_v128 : Ref sig .tc := ⟨.hbm, 198, rfl⟩
abbrev main_c_34 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_c_35 : Ref sig .tc := ⟨.hbm, 203, rfl⟩
abbrev main_v132 : Ref sig .tc := ⟨.hbm, 204, rfl⟩
abbrev main_v133 : Ref sig .tc := ⟨.hbm, 205, rfl⟩
abbrev main_c_36 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_c_37 : Ref sig .tc := ⟨.hbm, 214, rfl⟩
abbrev main_v141 : Ref sig .tc := ⟨.hbm, 215, rfl⟩
abbrev main_v142 : Ref sig .tc := ⟨.hbm, 216, rfl⟩
abbrev main_c_38 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_c_39 : Ref sig .tc := ⟨.hbm, 222, rfl⟩
abbrev main_v147 : Ref sig .tc := ⟨.hbm, 223, rfl⟩
abbrev main_v148 : Ref sig .tc := ⟨.hbm, 224, rfl⟩
abbrev main_c_40 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_c_41 : Ref sig .tc := ⟨.hbm, 229, rfl⟩
abbrev main_v152 : Ref sig .tc := ⟨.hbm, 230, rfl⟩
abbrev main_v153 : Ref sig .tc := ⟨.hbm, 231, rfl⟩
abbrev main_c_42 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_c_43 : Ref sig .tc := ⟨.hbm, 240, rfl⟩
abbrev main_v161 : Ref sig .tc := ⟨.hbm, 241, rfl⟩
abbrev main_v162 : Ref sig .tc := ⟨.hbm, 242, rfl⟩
abbrev main_c_44 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_c_45 : Ref sig .tc := ⟨.hbm, 248, rfl⟩
abbrev main_v167 : Ref sig .tc := ⟨.hbm, 249, rfl⟩
abbrev main_v168 : Ref sig .tc := ⟨.hbm, 250, rfl⟩
abbrev main_c_46 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_c_47 : Ref sig .tc := ⟨.hbm, 255, rfl⟩
abbrev main_v172 : Ref sig .tc := ⟨.hbm, 256, rfl⟩
abbrev main_v173 : Ref sig .tc := ⟨.hbm, 257, rfl⟩
abbrev main_c_48 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_c_49 : Ref sig .tc := ⟨.hbm, 266, rfl⟩
abbrev main_v181 : Ref sig .tc := ⟨.hbm, 267, rfl⟩
abbrev main_v182 : Ref sig .tc := ⟨.hbm, 268, rfl⟩
abbrev main_c_50 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_c_51 : Ref sig .tc := ⟨.hbm, 274, rfl⟩
abbrev main_v187 : Ref sig .tc := ⟨.hbm, 275, rfl⟩
abbrev main_v188 : Ref sig .tc := ⟨.hbm, 276, rfl⟩
abbrev main_c_52 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_c_53 : Ref sig .tc := ⟨.hbm, 281, rfl⟩
abbrev main_v192 : Ref sig .tc := ⟨.hbm, 282, rfl⟩
abbrev main_v193 : Ref sig .tc := ⟨.hbm, 283, rfl⟩
abbrev main_c_54 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_c_55 : Ref sig .tc := ⟨.hbm, 292, rfl⟩
abbrev main_v201 : Ref sig .tc := ⟨.hbm, 293, rfl⟩
abbrev main_v202 : Ref sig .tc := ⟨.hbm, 294, rfl⟩
abbrev main_c_56 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_c_57 : Ref sig .tc := ⟨.hbm, 300, rfl⟩
abbrev main_v207 : Ref sig .tc := ⟨.hbm, 301, rfl⟩
abbrev main_v208 : Ref sig .tc := ⟨.hbm, 302, rfl⟩
abbrev main_c_58 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_c_59 : Ref sig .tc := ⟨.hbm, 307, rfl⟩
abbrev main_v212 : Ref sig .tc := ⟨.hbm, 308, rfl⟩
abbrev main_v213 : Ref sig .tc := ⟨.hbm, 309, rfl⟩
abbrev main_c_60 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_c_61 : Ref sig .tc := ⟨.hbm, 318, rfl⟩
abbrev main_v221 : Ref sig .tc := ⟨.hbm, 319, rfl⟩
abbrev main_v222 : Ref sig .tc := ⟨.hbm, 320, rfl⟩
abbrev main_c_62 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_c_63 : Ref sig .tc := ⟨.hbm, 326, rfl⟩
abbrev main_v227 : Ref sig .tc := ⟨.hbm, 327, rfl⟩
abbrev main_v228 : Ref sig .tc := ⟨.hbm, 328, rfl⟩
abbrev main_c_64 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_c_65 : Ref sig .tc := ⟨.hbm, 333, rfl⟩
abbrev main_v232 : Ref sig .tc := ⟨.hbm, 334, rfl⟩
abbrev main_v233 : Ref sig .tc := ⟨.hbm, 335, rfl⟩
abbrev main_c_66 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_c_67 : Ref sig .tc := ⟨.hbm, 344, rfl⟩
abbrev main_v241 : Ref sig .tc := ⟨.hbm, 345, rfl⟩
abbrev main_v242 : Ref sig .tc := ⟨.hbm, 346, rfl⟩
abbrev main_c_68 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_c_69 : Ref sig .tc := ⟨.hbm, 352, rfl⟩
abbrev main_v247 : Ref sig .tc := ⟨.hbm, 353, rfl⟩
abbrev main_v248 : Ref sig .tc := ⟨.hbm, 354, rfl⟩
abbrev main_c_70 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_c_71 : Ref sig .tc := ⟨.hbm, 359, rfl⟩
abbrev main_v252 : Ref sig .tc := ⟨.hbm, 360, rfl⟩
abbrev main_v253 : Ref sig .tc := ⟨.hbm, 361, rfl⟩
abbrev main_c_72 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_cst_73 : Ref sig .tc := ⟨.hbm, 370, rfl⟩
abbrev main_v261 : Ref sig .tc := ⟨.hbm, 371, rfl⟩
abbrev main_cst_74 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_v273 : Ref sig .tc := ⟨.hbm, 384, rfl⟩
abbrev main_v274 : Ref sig .tc := ⟨.hbm, 385, rfl⟩
abbrev main_cst_75 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_cst_76 : Ref sig .tc := ⟨.hbm, 391, rfl⟩
abbrev main_v279 : Ref sig .tc := ⟨.hbm, 392, rfl⟩
abbrev main_v280 : Ref sig .tc := ⟨.hbm, 393, rfl⟩
abbrev main_cst_77 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_cst_78 : Ref sig .tc := ⟨.hbm, 401, rfl⟩
abbrev main_v287 : Ref sig .tc := ⟨.hbm, 402, rfl⟩
abbrev main_v288 : Ref sig .tc := ⟨.hbm, 403, rfl⟩
abbrev main_v289 : Ref sig .tc := ⟨.hbm, 404, rfl⟩
abbrev main_cst_79 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_v293 : Ref sig .tc := ⟨.hbm, 409, rfl⟩
abbrev main_cst_80 : Ref sig .tc := ⟨.hbm, 410, rfl⟩
abbrev main_v294 : Ref sig .tc := ⟨.hbm, 411, rfl⟩
abbrev main_v295 : Ref sig .tc := ⟨.hbm, 412, rfl⟩
abbrev main_cst_81 : Ref sig .tc := ⟨.hbm, 413, rfl⟩
abbrev main_v296 : Ref sig .tc := ⟨.hbm, 414, rfl⟩
abbrev main_v297 : Ref sig .tc := ⟨.hbm, 415, rfl⟩
abbrev main_v298 : Ref sig .tc := ⟨.hbm, 416, rfl⟩
abbrev main_v299 : Ref sig .tc := ⟨.hbm, 417, rfl⟩
abbrev main_v300 : Ref sig .tc := ⟨.hbm, 418, rfl⟩
abbrev main_v301 : Ref sig .tc := ⟨.hbm, 419, rfl⟩
abbrev main_cst_82 : Ref sig .tc := ⟨.hbm, 420, rfl⟩
abbrev main_v302 : Ref sig .tc := ⟨.hbm, 421, rfl⟩
abbrev main_v303 : Ref sig .tc := ⟨.hbm, 422, rfl⟩
abbrev main_v304 : Ref sig .tc := ⟨.hbm, 423, rfl⟩
abbrev main_cst_83 : Ref sig .tc := ⟨.hbm, 424, rfl⟩
abbrev main_v305 : Ref sig .tc := ⟨.hbm, 425, rfl⟩
abbrev main_v306 : Ref sig .tc := ⟨.hbm, 426, rfl⟩
abbrev main_v307 : Ref sig .tc := ⟨.hbm, 427, rfl⟩
abbrev main_v308 : Ref sig .tc := ⟨.hbm, 428, rfl⟩
abbrev main_cst_84 : Ref sig .tc := ⟨.hbm, 429, rfl⟩
abbrev main_v309 : Ref sig .tc := ⟨.hbm, 430, rfl⟩
abbrev main_v310 : Ref sig .tc := ⟨.hbm, 431, rfl⟩
abbrev main_cst_85 : Ref sig .tc := ⟨.hbm, 432, rfl⟩
abbrev main_v311 : Ref sig .tc := ⟨.hbm, 433, rfl⟩
abbrev main_v312 : Ref sig .tc := ⟨.hbm, 434, rfl⟩
abbrev main_v313 : Ref sig .tc := ⟨.hbm, 435, rfl⟩
abbrev main_v314 : Ref sig .tc := ⟨.hbm, 436, rfl⟩
abbrev main_v315 : Ref sig .tc := ⟨.hbm, 437, rfl⟩
abbrev main_v316 : Ref sig .tc := ⟨.hbm, 438, rfl⟩
abbrev main_cst_86 : Ref sig .tc := ⟨.hbm, 439, rfl⟩
abbrev main_v317 : Ref sig .tc := ⟨.hbm, 440, rfl⟩
abbrev main_v318 : Ref sig .tc := ⟨.hbm, 441, rfl⟩
abbrev main_v319 : Ref sig .tc := ⟨.hbm, 442, rfl⟩
abbrev main_cst_87 : Ref sig .tc := ⟨.hbm, 443, rfl⟩
abbrev main_v320 : Ref sig .tc := ⟨.hbm, 444, rfl⟩
abbrev main_v321 : Ref sig .tc := ⟨.hbm, 445, rfl⟩
abbrev main_v322 : Ref sig .tc := ⟨.hbm, 446, rfl⟩
abbrev main_v323 : Ref sig .tc := ⟨.hbm, 447, rfl⟩
abbrev main_cst_88 : Ref sig .tc := ⟨.hbm, 448, rfl⟩
abbrev main_v324 : Ref sig .tc := ⟨.hbm, 449, rfl⟩
abbrev main_v325 : Ref sig .tc := ⟨.hbm, 450, rfl⟩
abbrev main_cst_89 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_v329 : Ref sig .tc := ⟨.hbm, 455, rfl⟩
abbrev main_v330 : Ref sig .tc := ⟨.hbm, 456, rfl⟩
abbrev main_v331 : Ref sig .tc := ⟨.hbm, 457, rfl⟩
abbrev main_cst_90 : Ref sig .tc := ⟨.hbm, 458, rfl⟩
abbrev main_v332 : Ref sig .tc := ⟨.hbm, 459, rfl⟩
abbrev main_v333 : Ref sig .tc := ⟨.hbm, 460, rfl⟩
abbrev main_v334 : Ref sig .tc := ⟨.hbm, 461, rfl⟩
abbrev main_cst_91 : Ref sig .tc := ⟨.hbm, 462, rfl⟩
abbrev main_v335 : Ref sig .tc := ⟨.hbm, 463, rfl⟩
abbrev main_v336 : Ref sig .tc := ⟨.hbm, 464, rfl⟩
abbrev main_v337 : Ref sig .tc := ⟨.hbm, 465, rfl⟩
abbrev main_v338 : Ref sig .tc := ⟨.hbm, 466, rfl⟩
abbrev main_v339 : Ref sig .tc := ⟨.hbm, 467, rfl⟩
abbrev main_v340 : Ref sig .tc := ⟨.hbm, 468, rfl⟩
abbrev main_v341 : Ref sig .tc := ⟨.hbm, 469, rfl⟩

abbrev nD : Nat := 1
abbrev τ : Topo := Topo.v7x

variable {F : FTy → Type} [FloatOps F]
-- ==== Proof.Model.lean ====
/-
  The mathematics of one row, over the reals: three feature vectors `x 0`, `x 1`, `x 2` of 200 numbers, the 3×3
  matrix of their angular similarities, its normalization by the square roots of its row sums, and four
  graph-convolution layers on the three nodes. Both programs compute this function of each row.
-/
module

public import Idealize.ShloMosaic.PureOps.Ideal

@[expose] public section

noncomputable section

namespace Cert.Proof

open Idealize.ShloMosaic
open scoped BigOperators

/-! ### Literals -/

/-- The real number a 32-bit literal denotes. -/
def lit (b : BitVec 32) : ℝ := (Ideal.ofBits .f32 b).toReal

/-- A literal whose exponent field is not all ones denotes its real number. -/
theorem ofBits_lit {b : BitVec 32} (h : (b.extractLsb' 23 8).toNat ≠ 255) :
    Ideal.ofBits .f32 b = ((lit b : ℝ) : EReal) := by
  have e : ∃ r : ℝ, Ideal.ofBits .f32 b = ((r : ℝ) : EReal) := by
    show ∃ r : ℝ, Ideal.ieee 8 23 b = ((r : ℝ) : EReal)
    unfold Ideal.ieee
    simp only [show (2 : ℕ) ^ 8 - 1 = 255 from rfl, if_neg h]
    split
    · exact ⟨_, rfl⟩
    · exact ⟨_, rfl⟩
  obtain ⟨r, hr⟩ := e
  rw [lit, hr, EReal.toReal_coe]

/-- The scale of the cosines, just below one. -/
def qR : ℝ := lit 0x3F7FFF58#32
/-- The circle's constant as the programs have it. -/
def piR : ℝ := lit 0x40490FDB#32

theorem lit_zero : lit 0x00000000#32 = 0 := by
  simp [lit, Ideal.ofBits, Ideal.ieee]
theorem lit_one : lit 0x3F800000#32 = 1 := by
  have : Ideal.ofBits .f32 0x3F800000#32 = ((1 : ℝ) : EReal) := by
    simp [Ideal.ofBits, Ideal.ieee, -EReal.coe_mul, -EReal.coe_one]; norm_num
  rw [lit, this, EReal.toReal_coe]
theorem qR_pos : 0 < qR := by
  have : Ideal.ofBits .f32 0x3F7FFF58#32 = ((16777048 / 16777216 : ℝ) : EReal) := by
    simp [Ideal.ofBits, Ideal.ieee, -EReal.coe_mul]; norm_num
  rw [qR, lit, this, EReal.toReal_coe]; norm_num
theorem qR_lt : qR < 1 := by
  have : Ideal.ofBits .f32 0x3F7FFF58#32 = ((16777048 / 16777216 : ℝ) : EReal) := by
    simp [Ideal.ofBits, Ideal.ieee, -EReal.coe_mul]; norm_num
  rw [qR, lit, this, EReal.toReal_coe]; norm_num
theorem piR_gt : 3 < piR := by
  have : Ideal.ofBits .f32 0x40490FDB#32 = ((13176795 / 4194304 : ℝ) : EReal) := by
    simp [Ideal.ofBits, Ideal.ieee, -EReal.coe_mul]; norm_num
  rw [piR, lit, this, EReal.toReal_coe]; norm_num
theorem piR_ne : piR ≠ 0 := by have := piR_gt; linarith

/-! ### The arc cosine's polynomial -/

/-- The polynomial of degree seven in `t`. -/
def polyR (t : ℝ) : ℝ :=
  ((((((lit 0xBAA57A2C#32 * t + lit 0x3BDA90C5#32) * t + lit 0xBC8BFC66#32) * t + lit 0x3CFD10F8#32) * t
    + lit 0xBD4D8392#32) * t + lit 0x3DB63A9E#32) * t + lit 0xBE5BBFCA#32) * t + lit 0x3FC90FDA#32

theorem bound7 : -0.0013 ≤ lit 0xBAA57A2C#32 ∧ lit 0xBAA57A2C#32 ≤ 0 := by
  simp [lit, Ideal.ofBits, Ideal.ieee, -EReal.coe_mul]; norm_num
theorem bound6 : 0.0013 ≤ lit 0x3BDA90C5#32 ∧ lit 0x3BDA90C5#32 ≤ 0.007 := by
  simp [lit, Ideal.ofBits, Ideal.ieee, -EReal.coe_mul]; norm_num
theorem bound5 : -0.018 ≤ lit 0xBC8BFC66#32 ∧ lit 0xBC8BFC66#32 ≤ -0.007 := by
  simp [lit, Ideal.ofBits, Ideal.ieee, -EReal.coe_mul]; norm_num
theorem bound4 : 0.018 ≤ lit 0x3CFD10F8#32 ∧ lit 0x3CFD10F8#32 ≤ 0.031 := by
  simp [lit, Ideal.ofBits, Ideal.ieee, -EReal.coe_mul]; norm_num
theorem bound3 : -0.051 ≤ lit 0xBD4D8392#32 ∧ lit 0xBD4D8392#32 ≤ -0.031 := by
  simp [lit, Ideal.ofBits, Ideal.ieee, -EReal.coe_mul]; norm_num
theorem bound2 : 0.051 ≤ lit 0x3DB63A9E#32 ∧ lit 0x3DB63A9E#32 ≤ 0.09 := by
  simp [lit, Ideal.ofBits, Ideal.ieee, -EReal.coe_mul]; norm_num
theorem bound1 : -0.22 ≤ lit 0xBE5BBFCA#32 ∧ lit 0xBE5BBFCA#32 ≤ -0.09 := by
  simp [lit, Ideal.ofBits, Ideal.ieee, -EReal.coe_mul]; norm_num
theorem bound0 : 1.5 ≤ lit 0x3FC90FDA#32 ∧ lit 0x3FC90FDA#32 ≤ 1.6 := by
  simp [lit, Ideal.ofBits, Ideal.ieee, -EReal.coe_mul]; norm_num

/-- A Horner step from a non-positive number. -/
theorem step_neg {y t l : ℝ} (ht0 : 0 ≤ t) (ht1 : t ≤ 1) (hl : l ≤ y) (hy : y ≤ 0) : l ≤ y * t ∧ y * t ≤ 0 :=
  ⟨by nlinarith, by nlinarith⟩
/-- A Horner step from a non-negative number. -/
theorem step_pos {y t u : ℝ} (ht0 : 0 ≤ t) (ht1 : t ≤ 1) (hu : y ≤ u) (hy : 0 ≤ y) : 0 ≤ y * t ∧ y * t ≤ u :=
  ⟨by nlinarith, by nlinarith⟩

/-- On the unit interval the polynomial lies between 1 and 1.6. -/
theorem polyR_bounds {t : ℝ} (ht0 : 0 ≤ t) (ht1 : t ≤ 1) : 1 ≤ polyR t ∧ polyR t ≤ 1.6 := by
  have b7 := bound7; have b6 := bound6; have b5 := bound5; have b4 := bound4
  have b3 := bound3; have b2 := bound2; have b1 := bound1; have b0 := bound0
  have s7 := step_neg ht0 ht1 b7.1 b7.2
  have s6 := step_pos (u := 0.007) (y := lit 0xBAA57A2C#32 * t + lit 0x3BDA90C5#32) ht0 ht1 (by linarith) (by linarith)
  have s5 := step_neg (l := -0.018) (y := (lit 0xBAA57A2C#32 * t + lit 0x3BDA90C5#32) * t + lit 0xBC8BFC66#32) ht0 ht1
    (by linarith) (by linarith)
  have s4 := step_pos (u := 0.031) (y := ((lit 0xBAA57A2C#32 * t + lit 0x3BDA90C5#32) * t + lit 0xBC8BFC66#32) * t
    + lit 0x3CFD10F8#32) ht0 ht1 (by linarith) (by linarith)
  have s3 := step_neg (l := -0.051) (y := (((lit 0xBAA57A2C#32 * t + lit 0x3BDA90C5#32) * t + lit 0xBC8BFC66#32) * t
    + lit 0x3CFD10F8#32) * t + lit 0xBD4D8392#32) ht0 ht1 (by linarith) (by linarith)
  have s2 := step_pos (u := 0.09) (y := ((((lit 0xBAA57A2C#32 * t + lit 0x3BDA90C5#32) * t + lit 0xBC8BFC66#32) * t
    + lit 0x3CFD10F8#32) * t + lit 0xBD4D8392#32) * t + lit 0x3DB63A9E#32) ht0 ht1 (by linarith) (by linarith)
  have s1 := step_neg (l := -0.22) (y := (((((lit 0xBAA57A2C#32 * t + lit 0x3BDA90C5#32) * t + lit 0xBC8BFC66#32) * t
    + lit 0x3CFD10F8#32) * t + lit 0xBD4D8392#32) * t + lit 0x3DB63A9E#32) * t + lit 0xBE5BBFCA#32) ht0 ht1
    (by linarith) (by linarith)
  unfold polyR
  constructor <;> linarith

/-- The arc cosine: the polynomial of the absolute value times a square root, reflected below zero. -/
def acosR (c : ℝ) : ℝ :=
  if 0 ≤ c then polyR |c| * √(1 - |c|) else piR - polyR |c| * √(1 - |c|)

/-- The angular similarity of a cosine. -/
def angR (c : ℝ) : ℝ := 1 - acosR c / piR

theorem acosR_le {c : ℝ} (h : |c| ≤ 1) : acosR c ≤ piR := by
  have hp := polyR_bounds (abs_nonneg c) h
  have hpi := piR_gt
  have h0 := Real.sqrt_nonneg (1 - |c|)
  have h1 : √(1 - |c|) ≤ 1 := by
    rw [show (1 : ℝ) = √1 by simp]; exact Real.sqrt_le_sqrt (by simp)
  unfold acosR
  split
  · nlinarith
  · nlinarith

theorem angR_nonneg {c : ℝ} (h : |c| ≤ 1) : 0 ≤ angR c := by
  have hpi := piR_gt
  have : acosR c / piR ≤ 1 := (div_le_one (by linarith)).2 (acosR_le h)
  unfold angR; linarith

theorem angR_qR_pos : 0 < angR qR := by
  have hq := qR_pos
  have hq1 := qR_lt
  have habs : |qR| = qR := abs_of_pos hq
  have hp := polyR_bounds (t := |qR|) (abs_nonneg _) (by rw [habs]; linarith)
  have hpi := piR_gt
  have h0 := Real.sqrt_nonneg (1 - |qR|)
  have h1 : √(1 - |qR|) ≤ 1 := by
    rw [show (1 : ℝ) = √1 by simp]; exact Real.sqrt_le_sqrt (by simp)
  have : acosR qR < piR := by
    unfold acosR; rw [if_pos hq.le]; nlinarith
  have : acosR qR / piR < 1 := (div_lt_one (by linarith)).2 this
  unfold angR; linarith

/-! ### The 3×3 similarity matrix of a row -/

section Row

variable (x : Fin 3 → Fin 200 → ℝ)

/-- The squared length of the `m`-th feature vector. -/
def nrmR (m : Fin 3) : ℝ := ∑ k, x m k * x m k
/-- The scaled cosine between feature vectors `m` and `n`. -/
def cosR (m n : Fin 3) : ℝ := (∑ k, x m k * x n k) / (√(nrmR x m) * √(nrmR x n)) * qR
/-- Their angular similarity. -/
def simR (m n : Fin 3) : ℝ := angR (cosR x m n)
/-- The row sums of the similarity matrix. -/
def degR (m : Fin 3) : ℝ := simR x m 0 + simR x m 1 + simR x m 2
/-- The normalized matrix. -/
def adjR (m n : Fin 3) : ℝ := simR x m n * (√(degR x m))⁻¹ * (√(degR x n))⁻¹

theorem cosR_comm (m n : Fin 3) : cosR x m n = cosR x n m := by
  unfold cosR
  rw [mul_comm (√(nrmR x m)), Finset.sum_congr rfl fun k _ => mul_comm (x m k) (x n k)]
theorem simR_comm (m n : Fin 3) : simR x m n = simR x n m := by unfold simR; rw [cosR_comm]

variable {x}

theorem cosR_self (h : ∀ m, 0 < nrmR x m) (m : Fin 3) : cosR x m m = qR := by
  have e : (∑ k, x m k * x m k) = nrmR x m := rfl
  unfold cosR
  rw [e, Real.mul_self_sqrt (h m).le, div_self (h m).ne', one_mul]

/-- The inequality of Cauchy and Schwarz keeps the scaled cosine below one. -/
theorem abs_cosR_le (h : ∀ m, 0 < nrmR x m) (m n : Fin 3) : |cosR x m n| ≤ 1 := by
  have hm := Real.sqrt_pos.2 (h m)
  have hn := Real.sqrt_pos.2 (h n)
  have cs : (∑ k, x m k * x n k) ^ 2 ≤ nrmR x m * nrmR x n := by
    have := Finset.sum_mul_sq_le_sq_mul_sq Finset.univ (x m) (x n)
    simpa [nrmR, pow_two] using this
  have hle : |∑ k, x m k * x n k| ≤ √(nrmR x m) * √(nrmR x n) := by
    rw [← Real.sqrt_mul (h m).le]
    exact Real.abs_le_sqrt cs
  have hd : |(∑ k, x m k * x n k) / (√(nrmR x m) * √(nrmR x n))| ≤ 1 := by
    rw [abs_div, abs_of_pos (mul_pos hm hn)]
    exact (div_le_one (mul_pos hm hn)).2 hle
  unfold cosR
  rw [abs_mul, abs_of_pos qR_pos]
  have := qR_lt; have := qR_pos
  nlinarith [abs_nonneg ((∑ k, x m k * x n k) / (√(nrmR x m) * √(nrmR x n)))]

theorem simR_nonneg (h : ∀ m, 0 < nrmR x m) (m n : Fin 3) : 0 ≤ simR x m n := angR_nonneg (abs_cosR_le h m n)
theorem simR_self (h : ∀ m, 0 < nrmR x m) (m : Fin 3) : simR x m m = angR qR := by unfold simR; rw [cosR_self h]

/-- Every row sum is positive: its diagonal entry is. -/
theorem degR_pos (h : ∀ m, 0 < nrmR x m) (m : Fin 3) : 0 < degR x m := by
  have h0 := simR_nonneg h m 0
  have h1 := simR_nonneg h m 1
  have h2 := simR_nonneg h m 2
  have hs : 0 < simR x m m := by rw [simR_self h]; exact angR_qR_pos
  unfold degR
  fin_cases m
  · have : 0 < simR x 0 0 := hs
    simp only [Fin.zero_eta] at *; linarith
  · have : 0 < simR x 1 1 := hs
    simp only [Fin.mk_one] at *; linarith
  · have : 0 < simR x 2 2 := hs
    simp only [Fin.reduceFinMk] at *; linarith

/-! ### The layers -/

variable (x)

/-- The dense input layer of node `m`. -/
def h0R (w0 : Fin 200 → Fin 200 → ℝ) (b : Fin 200 → ℝ) (m : Fin 3) (j : Fin 200) : ℝ :=
  max ((∑ k, x m k * w0 k j) + b j) 0
/-- The normalized matrix applied to the three nodes. -/
def mixR (h : Fin 3 → Fin 200 → ℝ) (m : Fin 3) (j : Fin 200) : ℝ :=
  adjR x m 0 * h 0 j + adjR x m 1 * h 1 j + adjR x m 2 * h 2 j
/-- A mixed row followed by the input layer's row. -/
def supR (h0 h : Fin 3 → Fin 200 → ℝ) (m : Fin 3) (k : Fin 400) : ℝ :=
  if hk : k.val < 200 then mixR x h m ⟨k.val, hk⟩ else h0 m ⟨k.val - 200, by have := k.isLt; omega⟩
/-- One layer: `θ` times the product by the layer's weights, `δ` times the mixed row, `ρ` times the input layer's. -/
def layR (θ δ ρ : ℝ) (W : Fin 400 → Fin 200 → ℝ) (h0 h : Fin 3 → Fin 200 → ℝ) (m : Fin 3) (j : Fin 200) : ℝ :=
  max (θ * (∑ k, supR x h0 h m k * W k j) + (δ * mixR x h m j + ρ * h0 m j)) 0

/-- A sum over 400 terms is the sum over the first 200 and the sum over the last 200. -/
theorem sum_halves (f : Fin 400 → ℝ) :
    ∑ k, f k = (∑ k : Fin 200, f ⟨k.val, by omega⟩) + ∑ k : Fin 200, f ⟨200 + k.val, by omega⟩ := by
  exact Fin.sum_univ_add (a := 200) (b := 200) f

/-- A layer with the two identity terms folded into the weights: what a kernel's two products add up to. -/
theorem layR_fold (θ δ ρ : ℝ) (W : Fin 400 → Fin 200 → ℝ) (h0 h : Fin 3 → Fin 200 → ℝ) (m : Fin 3) (j : Fin 200) :
    max ((∑ k : Fin 200, mixR x h m k * (θ * W ⟨k.val, by omega⟩ j + δ * (if k = j then 1 else 0)))
      + ∑ k : Fin 200, h0 m k * (θ * W ⟨200 + k.val, by omega⟩ j + ρ * (if k = j then 1 else 0))) 0
      = layR x θ δ ρ W h0 h m j := by
  unfold layR
  rw [sum_halves]
  have e1 : ∀ k : Fin 200, supR x h0 h m ⟨k.val, by omega⟩ = mixR x h m k := fun k => by
    unfold supR; rw [dif_pos k.isLt]
  have e2 : ∀ k : Fin 200, supR x h0 h m ⟨200 + k.val, by omega⟩ = h0 m k := fun k => by
    unfold supR
    rw [dif_neg (by show ¬ (200 + k.val < 200); omega)]
    congr 1; apply Fin.ext; show 200 + k.val - 200 = k.val; omega
  simp only [e1, e2, mul_add, Finset.sum_add_distrib, Finset.mul_sum, mul_ite, mul_one, mul_zero,
    Finset.sum_ite_eq', Finset.mem_univ, if_true]
  congr 1
  have r1 : (∑ k : Fin 200, mixR x h m k * (θ * W ⟨k.val, by omega⟩ j)) = ∑ k : Fin 200, θ * (mixR x h m k * W ⟨k.val, by omega⟩ j) :=
    Finset.sum_congr rfl fun k _ => by ring
  have r2 : (∑ k : Fin 200, h0 m k * (θ * W ⟨200 + k.val, by omega⟩ j)) = ∑ k : Fin 200, θ * (h0 m k * W ⟨200 + k.val, by omega⟩ j) :=
    Finset.sum_congr rfl fun k _ => by ring
  rw [r1, r2]; ring

end Row

/-! ### The four layers' coefficients, and the whole network on a row -/

/-- The weight of the product in each layer. -/
def thR : Fin 4 → ℝ := ![lit 0x3ECF991F#32, lit 0x3E647FBE#32, lit 0x3E1DD9AD#32, lit 0x3DF1383B#32]
/-- The weight of the mixed row in each layer. -/
def deR : Fin 4 → ℝ := ![lit 0x3F08FB18#32, lit 0x3F32FCDC#32, lit 0x3F42E239#32, lit 0x3F4B4346#32]
/-- The weight of the input layer in each layer. -/
def rhR : Fin 4 → ℝ := ![lit 0x3D738580#32, lit 0x3D9F19A7#32, lit 0x3DAD3ADD#32, lit 0x3DB4AD94#32]

section Net

variable (x : Fin 3 → Fin 200 → ℝ) (w0 : Fin 200 → Fin 200 → ℝ) (b : Fin 200 → ℝ) (W : Fin 4 → Fin 400 → Fin 200 → ℝ)

/-- Layer `i` applied to `h`. -/
def stepR (i : Fin 4) (h : Fin 3 → Fin 200 → ℝ) : Fin 3 → Fin 200 → ℝ :=
  layR x (thR i) (deR i) (rhR i) (W i) (h0R x w0 b) h
/-- The network after layers 0, 1, 2 and 3. -/
def net1 : Fin 3 → Fin 200 → ℝ := stepR x w0 b W 0 (h0R x w0 b)
def net2 : Fin 3 → Fin 200 → ℝ := stepR x w0 b W 1 (net1 x w0 b W)
def net3 : Fin 3 → Fin 200 → ℝ := stepR x w0 b W 2 (net2 x w0 b W)
def net4 : Fin 3 → Fin 200 → ℝ := stepR x w0 b W 3 (net3 x w0 b W)

/-- The result row: each node's features and its last layer, node after node. -/
def outR (c : Fin 1200) : ℝ :=
  if h : c.val % 400 < 200 then x ⟨c.val / 400, by omega⟩ ⟨c.val % 400, h⟩
  else net4 x w0 b W ⟨c.val / 400, by omega⟩ ⟨c.val % 400 - 200, by omega⟩

end Net

end Cert.Proof

end
-- ==== Proof.Lift.lean ====
/-
  Operations at the ideal instance on values that are real numbers: each gives the coercion of the real operation.
  Then a few readings of vectors at an index given by its coordinates.
-/
module

public import proofs.«01_k».proof.Proof.Model
public import Idealize.ShloMosaic.PureOps.Ideal.Laws
public import Idealize.ShloMosaic.Lib.Pipeline.Value
public import Idealize.ShloMosaic.Lib.MatmulPlain
public import Idealize.ShloMosaic.Lib.ValueLayout
public import Idealize.ShloMosaic.Lib.ValueLayoutCasts

@[expose] public section

noncomputable section

namespace Cert.Proof

open Idealize.ShloMosaic Idealize.ShloMosaic.ValueIdx
open scoped BigOperators

theorem max_c (a b : ℝ) : max (a : EReal) (b : EReal) = ((max a b : ℝ) : EReal) :=
  (EReal.coe_strictMono.monotone.map_max).symm
theorem abs_c (a : ℝ) : max (a : EReal) (-(a : EReal)) = ((|a| : ℝ) : EReal) := by
  rw [← EReal.coe_neg, max_c]; rfl
theorem sum_c {ι : Type} [Fintype ι] (f : ι → ℝ) : ∑ k, ((f k : ℝ) : EReal) = ((∑ k, f k : ℝ) : EReal) := by
  classical
  induction (Finset.univ : Finset ι) using Finset.induction_on with
  | empty => simp
  | insert a s ha ih => rw [Finset.sum_insert ha, Finset.sum_insert ha, ih, EReal.coe_add]
/-- A sum of products of real numbers. -/
theorem dot_c {ι : Type} [Fintype ι] (u v : ι → EReal) (f g : ι → ℝ) (hu : ∀ k, u k = ((f k : ℝ) : EReal))
    (hv : ∀ k, v k = ((g k : ℝ) : EReal)) : ∑ k, u k * v k = ((∑ k, f k * g k : ℝ) : EReal) := by
  rw [← sum_c]; exact Finset.sum_congr rfl fun k _ => by rw [hu, hv, EReal.coe_mul]
theorem sqrt_c {r : ℝ} (h : 0 ≤ r) : Ideal.sqrt (r : EReal) = ((√r : ℝ) : EReal) := by
  rw [Ideal.sqrt_coe, if_neg (not_lt.2 h)]
theorem rsqrt_c {r : ℝ} (h : 0 < r) : Ideal.rsqrt (r : EReal) = (((√r)⁻¹ : ℝ) : EReal) := by
  rw [Ideal.rsqrt_coe, if_neg (not_lt.2 h.le), if_neg h.ne']
theorem div_c (x : ℝ) {y : ℝ} (h : y ≠ 0) : Ideal.div (x : EReal) (y : EReal) = ((x / y : ℝ) : EReal) := by
  rw [Ideal.div_coe h, ← EReal.coe_mul, mul_one_div]
/-- A power with exponent minus one half is the reciprocal of the square root. -/
theorem pow_c {r : ℝ} (h : 0 < r) : Ideal.pow (r : EReal) ((lit 0xBF000000#32 : ℝ) : EReal) = (((√r)⁻¹ : ℝ) : EReal) := by
  have e : lit 0xBF000000#32 = -(1 / 2) := by
    have : Ideal.ofBits .f32 0xBF000000#32 = ((-(1 / 2) : ℝ) : EReal) := by
      simp [Ideal.ofBits, Ideal.ieee, -EReal.coe_mul, -EReal.coe_neg]; norm_num
    rw [lit, this, EReal.toReal_coe]
  rw [Ideal.pow_coe_coe, e]
  congr 1
  show r ^ (-(1 / 2) : ℝ) = _
  rw [Real.rpow_neg h.le, Real.sqrt_eq_rpow]
/-- A selection by a comparison. -/
theorem select_oge (a b : ℝ) (x y : EReal) :
    Scalar.select (Ideal.cmp .oge (a : EReal) (b : EReal)) x y = if b ≤ a then x else y := by
  unfold Scalar.select Ideal.cmp
  by_cases h : b ≤ a <;> simp [h]
theorem select_olt (a b : ℝ) (x y : EReal) :
    Scalar.select (Ideal.cmp .olt (a : EReal) (b : EReal)) x y = if a < b then x else y := by
  unfold Scalar.select Ideal.cmp
  by_cases h : a < b <;> simp [h]

/-- The angular similarity as a kernel computes it. -/
def angE (c : EReal) : EReal :=
  let l := fun b : BitVec 32 => Ideal.ofBits .f32 b
  let t := max c (-c)
  let p := (((((((l 0xBAA57A2C#32 * t + l 0x3BDA90C5#32) * t + l 0xBC8BFC66#32) * t + l 0x3CFD10F8#32) * t
    + l 0xBD4D8392#32) * t + l 0x3DB63A9E#32) * t + l 0xBE5BBFCA#32) * t + l 0x3FC90FDA#32)
    * Ideal.sqrt (l 0x3F800000#32 - t)
  l 0x3F800000#32 - Ideal.div (Scalar.select (Ideal.cmp .oge c (l 0x00000000#32)) p (l 0x40490FDB#32 - p)) (l 0x40490FDB#32)

theorem angE_coe {c : ℝ} (h : |c| ≤ 1) : angE (c : EReal) = ((angR c : ℝ) : EReal) := by
  have h1 : (0 : ℝ) ≤ 1 - |c| := by linarith
  unfold angE
  simp (disch := decide) only [ofBits_lit, lit_one, lit_zero]
  simp only [abs_c, ← EReal.coe_mul, ← EReal.coe_add, ← EReal.coe_sub, sqrt_c h1, select_oge]
  rw [← apply_ite (fun r : ℝ => (r : EReal))]
  rw [show lit 0x40490FDB#32 = piR from rfl, div_c _ piR_ne, ← EReal.coe_sub]
  rfl

/-! ### Readings at an index -/

/-- The sum of a matrix's rows. -/
theorem rowSum_apply {n k : ℕ} (v : FVec Ideal ⟨2, ![n, k]⟩ .f32) (h : Shape.Reduces ⟨2, ![n, k]⟩ [1] ⟨1, ![n]⟩)
    (hφ : FKind.Formats .f32) (hacc : (0x00000000#32 : BitVec 32) = FKind.add.neutral .f32 hφ) (i : Fin n) :
    multiReduction .add [1] ⟨1, ![n]⟩ v 0x00000000#32 h hφ hacc (ix1 i) = ∑ j : Fin k, v (ix2 i j) := by
  rw [Ideal.multiReduction_add_single]
  refine Finset.sum_congr rfl fun j _ => congrArg v ?_
  funext a; apply Fin.ext
  match a with
  | ⟨0, _⟩ => rfl
  | ⟨1, _⟩ => rfl

/-- A column broadcast along rows. -/
theorem bcol_apply {α : Type} {n k : ℕ} (x : (⟨2, ![n, 1]⟩ : Shape).Idx → α)
    (h : (⟨2, ![n, 1]⟩ : Shape).Broadcasts ⟨2, ![n, k]⟩) (i : Fin n) (j : Fin k) :
    broadcastTo ⟨2, ![n, k]⟩ x h (ix2 i j) = x (ix2 i 0) :=
  broadcastTo_apply x h _ _ fun a => by
    match a with
    | ⟨0, _⟩ =>
      show i.val = if n = 1 then 0 else i.val
      have := i.isLt; split <;> omega
    | ⟨1, _⟩ => show (0 : ℕ) = if (1 : ℕ) = 1 then 0 else _; rfl

/-- A row broadcast along columns. -/
theorem brow_apply {α : Type} {n k : ℕ} (x : (⟨2, ![1, k]⟩ : Shape).Idx → α)
    (h : (⟨2, ![1, k]⟩ : Shape).Broadcasts ⟨2, ![n, k]⟩) (i : Fin n) (j : Fin k) :
    broadcastTo ⟨2, ![n, k]⟩ x h (ix2 i j) = x (ix2 0 j) :=
  broadcastTo_apply x h _ _ fun a => by
    match a with
    | ⟨0, _⟩ => show (0 : ℕ) = if (1 : ℕ) = 1 then 0 else _; rfl
    | ⟨1, _⟩ =>
      show j.val = if k = 1 then 0 else j.val
      have := j.isLt; split <;> omega

end Cert.Proof

end
-- ==== Proof.Given.lean ====
/-
  What the nine argument arrays hold under the precondition: real numbers, the third feature after the speaker's row is
  added, and no feature row zero.
-/
module

public import proofs.«01_k».proof.Proof.Lift

@[expose] public section

noncomputable section

namespace Cert.Proof

open Idealize.ShloMosaic Idealize.ShloMosaic.ValueIdx

/-- The row of the speaker table that two flags pick: the second if its flag is the larger, else the first. -/
def pick (p q : EReal) : Fin 3 := if p < q then 1 else 0

/-- The arrays read as real numbers. -/
structure Given (A0 A1 A2 : (⟨2, ![1280, 200]⟩ : Shape).Idx → EReal) (A4 : (⟨3, ![1, 1280, 2]⟩ : Shape).Idx → EReal)
    (A5 : (⟨2, ![3, 200]⟩ : Shape).Idx → EReal) (A6 : (⟨2, ![200, 200]⟩ : Shape).Idx → EReal)
    (A7 : (⟨1, ![200]⟩ : Shape).Idx → EReal) (A8 : (⟨3, ![4, 400, 200]⟩ : Shape).Idx → EReal) where
  x : Fin 1280 → Fin 3 → Fin 200 → ℝ
  w0 : Fin 200 → Fin 200 → ℝ
  b : Fin 200 → ℝ
  W : Fin 4 → Fin 400 → Fin 200 → ℝ
  h0 : ∀ r k, A0 (ix2 r k) = ((x r 0 k : ℝ) : EReal)
  h1 : ∀ r k, A1 (ix2 r k) = ((x r 1 k : ℝ) : EReal)
  h2 : ∀ r k, A2 (ix2 r k) + A5 (ix2 (pick (A4 (ix3 0 r 0)) (A4 (ix3 0 r 1))) k) = ((x r 2 k : ℝ) : EReal)
  hw0 : ∀ k j, A6 (ix2 k j) = ((w0 k j : ℝ) : EReal)
  hb : ∀ j, A7 (ix1 j) = ((b j : ℝ) : EReal)
  hW : ∀ l k j, A8 (ix3 l k j) = ((W l k j : ℝ) : EReal)
  pos : ∀ r m, 0 < nrmR (x r) m

end Cert.Proof

end
-- ==== Proof.KernelBlock.lean ====
/-
  What one grid point computes from its blocks: the kernel's payloads put together as a few named stages (similarities,
  row sums, the normalized 3×3 matrix, the four layers), and the block's value when its inputs are real numbers: at each
  row the function `outR` of that row.
-/
module

public import proofs.«01_k».proof.Proof.Lift
public import proofs.«01_k».proof.Proof.Gen.KernelIdeal.Value

@[expose] public section

noncomputable section

namespace Cert.Proof.Block

open Idealize.ShloMosaic Idealize.ShloMosaic.ValueIdx Cert.KernelIdeal Cert.KernelIdeal.Gen
open scoped BigOperators

/-! ### The stages -/

/-- The similarity of two blocks of feature vectors, row by row. -/
def simV (x y : FVec Ideal S640x200 .f32) : FVec Ideal S640x1 .f32 :=
  k0_pay22 (F := Ideal) (k0_pay19 (F := Ideal) x y (k0_pay13 (F := Ideal) x) (k0_pay13 (F := Ideal) y)) (k0_pay20 (F := Ideal) x y (k0_pay13 (F := Ideal) x) (k0_pay13 (F := Ideal) y))
    (k0_pay21 (F := Ideal) x y (k0_pay13 (F := Ideal) x) (k0_pay13 (F := Ideal) y))
/-- The similarity of a vector with itself. -/
def dgV : FVec Ideal S640x1 .f32 := k0_pay34 (F := Ideal)
/-- The reciprocal square root of a row sum. -/
def dinvV (a b c : FVec Ideal S640x1 .f32) : FVec Ideal S640x1 .f32 := rsqrt (addf (addf a b) c)
/-- An entry of the similarity matrix scaled on both sides. -/
def sclV (s d e : FVec Ideal S640x1 .f32) : FVec Ideal S640x1 .bf16 := truncf .bf16 (mulf (mulf s d) e) bitsLt_bf16_f32
/-- A slab of the weights' scratch. -/
def slabV (v : Vec Ideal S1x200x200 .bf16) : FVec Ideal S200x200 .bf16 := shapeCast S200x200 v shapeCasts_S1x200x200_S200x200
/-- One layer at one node. -/
def layV (a0 a1 a2 : FVec Ideal S640x1 .bf16) (h0 h1 h2 s : FVec Ideal S640x200 .bf16) (wt wb : FVec Ideal S200x200 .bf16) :
    FVec Ideal S640x200 .bf16 :=
  maximumf (truncf .bf16 (addf
      (matmul dot_S640x200_S200x200_S640x200_1_0_0_1_n_n none
        (addf (addf (mulf (broadcastTo S640x200 a0 broadcasts_S640x1_S640x200) h0)
          (mulf (broadcastTo S640x200 a1 broadcasts_S640x1_S640x200) h1))
          (mulf (broadcastTo S640x200 a2 broadcasts_S640x1_S640x200) h2)) wt (constant S640x200 .f32 0x00000000#32))
      (matmul dot_S640x200_S200x200_S640x200_1_0_0_1_n_n none s wb (constant S640x200 .f32 0x00000000#32))) bitsLt_bf16_f32)
    (broadcast S640x200 (Scalar.ofBits .bf16 0x0000#16))

/-- The slab of layer `l` that starts at row `o`. -/
def ldW (w : Vec Ideal S4x400x200 .bf16) (l o : ℕ) (inb : ∀ a, (![l, o, 0] : Fin 3 → ℕ) a + S1x200x200.size a ≤ S4x400x200.size a) :
    FVec Ideal S200x200 .bf16 :=
  slabV (View.ld w (Rect.unit (s := S4x400x200) ![l, o, 0] S1x200x200.size inb))

section Stages

variable (x0 x1 x2 : FVec Ideal S640x200 .f32) (wi : Vec Ideal S200x200 .f32) (bi : Vec Ideal S1x200 .f32)
  (w : Vec Ideal S4x400x200 .bf16)

def d0V := dinvV dgV (simV x0 x1) (simV x0 x2)
def d1V := dinvV (simV x0 x1) dgV (simV x1 x2)
def d2V := dinvV (simV x0 x2) (simV x1 x2) dgV

/-- A layer at the first node. -/
def lay0V (h0 h1 h2 : FVec Ideal S640x200 .bf16) (wt wb : FVec Ideal S200x200 .bf16) :=
  layV (sclV dgV (d0V x0 x1 x2) (d0V x0 x1 x2)) (sclV (simV x0 x1) (d0V x0 x1 x2) (d1V x0 x1 x2))
    (sclV (simV x0 x2) (d0V x0 x1 x2) (d2V x0 x1 x2)) h0 h1 h2 (k0_pay43 (F := Ideal) x0 wi bi) wt wb
/-- A layer at the second node. -/
def lay1V (h0 h1 h2 : FVec Ideal S640x200 .bf16) (wt wb : FVec Ideal S200x200 .bf16) :=
  layV (sclV (simV x0 x1) (d1V x0 x1 x2) (d0V x0 x1 x2)) (sclV dgV (d1V x0 x1 x2) (d1V x0 x1 x2))
    (sclV (simV x1 x2) (d1V x0 x1 x2) (d2V x0 x1 x2)) h0 h1 h2 (k0_pay43 (F := Ideal) x1 wi bi) wt wb
/-- A layer at the third node. -/
def lay2V (h0 h1 h2 : FVec Ideal S640x200 .bf16) (wt wb : FVec Ideal S200x200 .bf16) :=
  layV (sclV (simV x0 x2) (d2V x0 x1 x2) (d0V x0 x1 x2)) (sclV (simV x1 x2) (d2V x0 x1 x2) (d1V x0 x1 x2))
    (sclV dgV (d2V x0 x1 x2) (d2V x0 x1 x2)) h0 h1 h2 (k0_pay43 (F := Ideal) x2 wi bi) wt wb

/-- The nodes after the first layer. -/
def g1V : Fin 3 → FVec Ideal S640x200 .bf16 :=
  let wt := ldW w 0 0 inb_S4x400x200_S1x200x200_0_0_0
  let wb := ldW w 0 200 inb_S4x400x200_S1x200x200_0_200_0
  let h0 := k0_pay43 (F := Ideal) x0 wi bi
  let h1 := k0_pay43 (F := Ideal) x1 wi bi
  let h2 := k0_pay43 (F := Ideal) x2 wi bi
  ![lay0V x0 x1 x2 wi bi h0 h1 h2 wt wb, lay1V x0 x1 x2 wi bi h0 h1 h2 wt wb, lay2V x0 x1 x2 wi bi h0 h1 h2 wt wb]
/-- The nodes after the second layer. -/
def g2V : Fin 3 → FVec Ideal S640x200 .bf16 :=
  let wt := ldW w 1 0 inb_S4x400x200_S1x200x200_1_0_0
  let wb := ldW w 1 200 inb_S4x400x200_S1x200x200_1_200_0
  let h := g1V x0 x1 x2 wi bi w
  ![lay0V x0 x1 x2 wi bi (h 0) (h 1) (h 2) wt wb, lay1V x0 x1 x2 wi bi (h 0) (h 1) (h 2) wt wb,
    lay2V x0 x1 x2 wi bi (h 0) (h 1) (h 2) wt wb]
/-- The nodes after the third layer. -/
def g3V : Fin 3 → FVec Ideal S640x200 .bf16 :=
  let wt := ldW w 2 0 inb_S4x400x200_S1x200x200_2_0_0
  let wb := ldW w 2 200 inb_S4x400x200_S1x200x200_2_200_0
  let h := g2V x0 x1 x2 wi bi w
  ![lay0V x0 x1 x2 wi bi (h 0) (h 1) (h 2) wt wb, lay1V x0 x1 x2 wi bi (h 0) (h 1) (h 2) wt wb,
    lay2V x0 x1 x2 wi bi (h 0) (h 1) (h 2) wt wb]
/-- The nodes after the fourth layer. -/
def g4V : Fin 3 → FVec Ideal S640x200 .bf16 :=
  let wt := ldW w 3 0 inb_S4x400x200_S1x200x200_3_0_0
  let wb := ldW w 3 200 inb_S4x400x200_S1x200x200_3_200_0
  let h := g3V x0 x1 x2 wi bi w
  ![lay0V x0 x1 x2 wi bi (h 0) (h 1) (h 2) wt wb, lay1V x0 x1 x2 wi bi (h 0) (h 1) (h 2) wt wb,
    lay2V x0 x1 x2 wi bi (h 0) (h 1) (h 2) wt wb]
/-- The six bands of the stored block: each node's features and its last layer. -/
def bands : List ((s : Shape) × (s.Idx → EReal)) :=
  [⟨S640x200, x0⟩, ⟨S640x200, extf .f32 (g4V x0 x1 x2 wi bi w 0) bitsLt_bf16_f32⟩, ⟨S640x200, x1⟩,
    ⟨S640x200, extf .f32 (g4V x0 x1 x2 wi bi w 1) bitsLt_bf16_f32⟩, ⟨S640x200, x2⟩,
    ⟨S640x200, extf .f32 (g4V x0 x1 x2 wi bi w 2) bitsLt_bf16_f32⟩]
/-- The block the point stores. -/
def blkV : FVec Ideal S640x1200 .f32 :=
  concatenate S640x1200 1 (bands x0 x1 x2 wi bi w)
    concatenates_S640x200_S640x200_S640x200_S640x200_S640x200_S640x200_S640x1200_d1

end Stages

/-! ### The stages on real numbers -/

section Real

variable {x y : FVec Ideal S640x200 .f32} {f g : Fin 640 → Fin 200 → ℝ}

/-- The sum of each row, as a column. -/
def rsumV (v : FVec Ideal S640x200 .f32) : FVec Ideal S640x1 .f32 :=
  shapeCast S640x1 (multiReduction .add [1] S640 v 0x00000000#32 reduces_S640x200_S640) shapeCasts_S640_S640x1

theorem rsumV_mul (hx : ∀ i k, x (ix2 i k) = ((f i k : ℝ) : EReal)) (hy : ∀ i k, y (ix2 i k) = ((g i k : ℝ) : EReal)) (i : Fin 640) :
    rsumV (mulf x y) (ix2 i 0) = ((∑ k, f i k * g i k : ℝ) : EReal) :=
  (shapeCast_a_a1_apply _ _ _ _).trans ((rowSum_apply _ _ _ _ _).trans (dot_c _ _ _ _ (hx i) (hy i)))

/-- A block's row: the reciprocal length of its feature vector. -/
theorem pay13_real (hx : ∀ i k, x (ix2 i k) = ((f i k : ℝ) : EReal)) (i : Fin 640) (h : 0 < ∑ k, f i k * f i k) :
    k0_pay13 (F := Ideal) x (ix2 i 0) = (((√(∑ k, f i k * f i k))⁻¹ : ℝ) : EReal) := by
  have e : k0_pay13 (F := Ideal) x (ix2 i 0) = Ideal.rsqrt (rsumV (mulf x x) (ix2 i 0)) := rfl
  rw [e, rsumV_mul hx hx, rsqrt_c h]

theorem simV_apply (i : Fin 640) :
    simV x y (ix2 i 0) = angE (k0_pay19 (F := Ideal) x y (k0_pay13 (F := Ideal) x) (k0_pay13 (F := Ideal) y) (ix2 i 0)) := rfl
theorem dgV_apply (i : Fin 640) : dgV (ix2 i 0) = angE (Ideal.ofBits .f32 0x3F7FFF58#32) := rfl

theorem pay19_real (hx : ∀ i k, x (ix2 i k) = ((f i k : ℝ) : EReal)) (hy : ∀ i k, y (ix2 i k) = ((g i k : ℝ) : EReal))
    (i : Fin 640) (h : 0 < ∑ k, f i k * f i k) (h' : 0 < ∑ k, g i k * g i k) :
    k0_pay19 (F := Ideal) x y (k0_pay13 (F := Ideal) x) (k0_pay13 (F := Ideal) y) (ix2 i 0)
      = (((∑ k, f i k * g i k) / (√(∑ k, f i k * f i k) * √(∑ k, g i k * g i k)) * qR : ℝ) : EReal) := by
  have e : k0_pay19 (F := Ideal) x y (k0_pay13 (F := Ideal) x) (k0_pay13 (F := Ideal) y) (ix2 i 0)
      = rsumV (mulf x y) (ix2 i 0) * k0_pay13 (F := Ideal) x (ix2 i 0) * k0_pay13 (F := Ideal) y (ix2 i 0)
      * Ideal.ofBits .f32 0x3F7FFF58#32 := rfl
  rw [e, rsumV_mul hx hy, pay13_real hx i h, pay13_real hy i h', ofBits_lit (by decide),
    ← EReal.coe_mul, ← EReal.coe_mul, ← EReal.coe_mul]
  congr 1
  rw [div_eq_mul_inv, mul_inv, mul_assoc (∑ k, f i k * g i k)]
  rfl

end Real

/-- The blocks of three features, their row functions and the weights, as real numbers. -/
structure Inputs where
  x : Fin 640 → Fin 3 → Fin 200 → ℝ
  w0 : Fin 200 → Fin 200 → ℝ
  b : Fin 200 → ℝ
  W : Fin 4 → Fin 400 → Fin 200 → ℝ
  pos : ∀ i m, 0 < nrmR (x i) m

/-- The vectors holding those real numbers: the three features' blocks, the input layer's weights and bias, and the
    layers' weights with the identity terms folded in. -/
structure Holds (I : Inputs) (x0 x1 x2 : FVec Ideal S640x200 .f32) (wi : Vec Ideal S200x200 .f32) (bi : Vec Ideal S1x200 .f32)
    (w : Vec Ideal S4x400x200 .bf16) : Prop where
  h0 : ∀ i k, x0 (ix2 i k) = ((I.x i 0 k : ℝ) : EReal)
  h1 : ∀ i k, x1 (ix2 i k) = ((I.x i 1 k : ℝ) : EReal)
  h2 : ∀ i k, x2 (ix2 i k) = ((I.x i 2 k : ℝ) : EReal)
  hwi : ∀ k j, wi (ix2 k j) = ((I.w0 k j : ℝ) : EReal)
  hbi : ∀ j, bi (ix2 0 j) = ((I.b j : ℝ) : EReal)
  hw0 : ∀ (l : Fin 4) (k j : Fin 200), w (ix3 l ⟨k.val, by omega⟩ j)
    = ((thR l * I.W l ⟨k.val, by omega⟩ j + deR l * (if k = j then 1 else 0) : ℝ) : EReal)
  hw1 : ∀ (l : Fin 4) (k j : Fin 200), w (ix3 l ⟨200 + k.val, by omega⟩ j)
    = ((thR l * I.W l ⟨200 + k.val, by omega⟩ j + rhR l * (if k = j then 1 else 0) : ℝ) : EReal)

section Value

variable {I : Inputs} {x0 x1 x2 : FVec Ideal S640x200 .f32} {wi : Vec Ideal S200x200 .f32} {bi : Vec Ideal S1x200 .f32}
  {w : Vec Ideal S4x400x200 .bf16}

theorem sim01 (H : Holds I x0 x1 x2 wi bi w) (i : Fin 640) : simV x0 x1 (ix2 i 0) = ((simR (I.x i) 0 1 : ℝ) : EReal) := by
  rw [simV_apply, pay19_real H.h0 H.h1 i (I.pos i 0) (I.pos i 1)]
  exact angE_coe (abs_cosR_le (I.pos i) 0 1)
theorem sim02 (H : Holds I x0 x1 x2 wi bi w) (i : Fin 640) : simV x0 x2 (ix2 i 0) = ((simR (I.x i) 0 2 : ℝ) : EReal) := by
  rw [simV_apply, pay19_real H.h0 H.h2 i (I.pos i 0) (I.pos i 2)]
  exact angE_coe (abs_cosR_le (I.pos i) 0 2)
theorem sim12 (H : Holds I x0 x1 x2 wi bi w) (i : Fin 640) : simV x1 x2 (ix2 i 0) = ((simR (I.x i) 1 2 : ℝ) : EReal) := by
  rw [simV_apply, pay19_real H.h1 H.h2 i (I.pos i 1) (I.pos i 2)]
  exact angE_coe (abs_cosR_le (I.pos i) 1 2)
theorem simD (I : Inputs) (i : Fin 640) (m : Fin 3) : dgV (ix2 i 0) = ((simR (I.x i) m m : ℝ) : EReal) := by
  rw [dgV_apply, ofBits_lit (by decide), simR_self (I.pos i)]
  exact angE_coe (c := qR) (by rw [abs_of_pos qR_pos]; exact qR_lt.le)

theorem dinv_real {a b c : FVec Ideal S640x1 .f32} {i : Fin 640} {r s t : ℝ} (ha : a (ix2 i 0) = ((r : ℝ) : EReal))
    (hb : b (ix2 i 0) = ((s : ℝ) : EReal)) (hc : c (ix2 i 0) = ((t : ℝ) : EReal)) (h : 0 < r + s + t) :
    dinvV a b c (ix2 i 0) = (((√(r + s + t))⁻¹ : ℝ) : EReal) := by
  show Ideal.rsqrt (a (ix2 i 0) + b (ix2 i 0) + c (ix2 i 0)) = _
  rw [ha, hb, hc, ← EReal.coe_add, ← EReal.coe_add, rsqrt_c h]

theorem d0_real (H : Holds I x0 x1 x2 wi bi w) (i : Fin 640) :
    d0V x0 x1 x2 (ix2 i 0) = (((√(degR (I.x i) 0))⁻¹ : ℝ) : EReal) :=
  dinv_real (simD I i 0) (sim01 H i) (sim02 H i) (degR_pos (I.pos i) 0)
theorem d1_real (H : Holds I x0 x1 x2 wi bi w) (i : Fin 640) :
    d1V x0 x1 x2 (ix2 i 0) = (((√(degR (I.x i) 1))⁻¹ : ℝ) : EReal) :=
  dinv_real (by rw [simR_comm]; exact sim01 H i) (simD I i 1) (sim12 H i) (degR_pos (I.pos i) 1)
theorem d2_real (H : Holds I x0 x1 x2 wi bi w) (i : Fin 640) :
    d2V x0 x1 x2 (ix2 i 0) = (((√(degR (I.x i) 2))⁻¹ : ℝ) : EReal) :=
  dinv_real (by rw [simR_comm]; exact sim02 H i) (by rw [simR_comm]; exact sim12 H i) (simD I i 2) (degR_pos (I.pos i) 2)

theorem scl_real {a b c : FVec Ideal S640x1 .f32} {i : Fin 640} {r s t : ℝ} (ha : a (ix2 i 0) = ((r : ℝ) : EReal))
    (hb : b (ix2 i 0) = ((s : ℝ) : EReal)) (hc : c (ix2 i 0) = ((t : ℝ) : EReal)) :
    sclV a b c (ix2 i 0) = ((r * s * t : ℝ) : EReal) := by
  show a (ix2 i 0) * b (ix2 i 0) * c (ix2 i 0) = _
  rw [ha, hb, hc, ← EReal.coe_mul, ← EReal.coe_mul]

/-- A plain product with a zero accumulator, on real numbers. -/
theorem mm_real {φ₁ φ₂ : FTy} {a : FVec Ideal S640x200 φ₁} {b : FVec Ideal S200x200 φ₂} {f : Fin 200 → ℝ} {g : Fin 200 → ℝ} {i : Fin 640}
    {j : Fin 200} (ha : ∀ k, a (ix2 i k) = ((f k : ℝ) : EReal)) (hb : ∀ k, b (ix2 k j) = ((g k : ℝ) : EReal)) :
    matmul (F := Ideal) dot_S640x200_S200x200_S640x200_1_0_0_1_n_n none a b (constant S640x200 .f32 0x00000000#32) (ix2 i j)
      = ((∑ k, f k * g k : ℝ) : EReal) := by
  have e := Ideal.matmul_plain_apply (M := 640) (K := 200) (N := 200) none a b (constant S640x200 .f32 0x00000000#32) i j
  refine Eq.trans e ?_
  rw [dot_c _ _ _ _ ha hb]
  show Ideal.ofBits .f32 0x00000000#32 + _ = _
  rw [ofBits_lit (by decide), lit_zero, EReal.coe_zero, zero_add]

theorem zero16 : Ideal.ofBits .bf16 0x0000#16 = ((0 : ℝ) : EReal) := by simp [Ideal.ofBits, Ideal.ieee]

theorem inp_real {x : FVec Ideal S640x200 .f32} {f : Fin 640 → Fin 200 → ℝ} (H : Holds I x0 x1 x2 wi bi w)
    (hx : ∀ i k, x (ix2 i k) = ((f i k : ℝ) : EReal)) (i : Fin 640) (j : Fin 200) :
    k0_pay43 (F := Ideal) x wi bi (ix2 i j) = ((max ((∑ k, f i k * I.w0 k j) + I.b j) 0 : ℝ) : EReal) := by
  have e : k0_pay43 (F := Ideal) x wi bi (ix2 i j) = max (matmul dot_S640x200_S200x200_S640x200_1_0_0_1_n_n none x wi
      (constant S640x200 .f32 0x00000000#32) (ix2 i j)
      + broadcastTo S640x200 (shapeCast S1x200 bi shapeCasts_S1x200_S1x200) broadcasts_S1x200_S640x200 (ix2 i j))
      (Ideal.ofBits .bf16 0x0000#16) := rfl
  rw [e, mm_real (hx i) (fun k => H.hwi k j), brow_apply, shapeCast_self, H.hbi, zero16, ← EReal.coe_add, max_c]

/-- Slab `l` of the weights' scratch, read at an index. -/
theorem ldW_apply (w : Vec Ideal S4x400x200 .bf16) (l o : ℕ) (inb) (k j : Fin 200) (hl : l < 4) (ho : o + k.val < 400) :
    ldW w l o inb (ix2 k j) = w (ix3 ⟨l, hl⟩ ⟨o + k.val, ho⟩ j) := by
  unfold ldW slabV
  rw [shapeCast_1ab_ab_apply, View.ld_unit]
  refine extractStridedSlice_apply _ _ _ _ _ fun a => ?_
  match a with
  | ⟨0, _⟩ => rfl
  | ⟨1, _⟩ => rfl
  | ⟨2, _⟩ => show j.val = 0 + j.val; omega

/-- A layer at one node, on real numbers. -/
theorem lay_real {a0 a1 a2 : FVec Ideal S640x1 .bf16} {g0 g1 g2 s : FVec Ideal S640x200 .bf16} {wt wb : FVec Ideal S200x200 .bf16}
    {i : Fin 640} {x : Fin 3 → Fin 200 → ℝ} {θ δ ρ : ℝ} {W : Fin 400 → Fin 200 → ℝ} {h0 h : Fin 3 → Fin 200 → ℝ} {m : Fin 3}
    (ha0 : a0 (ix2 i 0) = ((adjR x m 0 : ℝ) : EReal)) (ha1 : a1 (ix2 i 0) = ((adjR x m 1 : ℝ) : EReal))
    (ha2 : a2 (ix2 i 0) = ((adjR x m 2 : ℝ) : EReal))
    (hg0 : ∀ k, g0 (ix2 i k) = ((h 0 k : ℝ) : EReal)) (hg1 : ∀ k, g1 (ix2 i k) = ((h 1 k : ℝ) : EReal))
    (hg2 : ∀ k, g2 (ix2 i k) = ((h 2 k : ℝ) : EReal)) (hs : ∀ k, s (ix2 i k) = ((h0 m k : ℝ) : EReal))
    (hwt : ∀ k j : Fin 200, wt (ix2 k j) = ((θ * W ⟨k.val, by omega⟩ j + δ * (if k = j then 1 else 0) : ℝ) : EReal))
    (hwb : ∀ k j : Fin 200, wb (ix2 k j) = ((θ * W ⟨200 + k.val, by omega⟩ j + ρ * (if k = j then 1 else 0) : ℝ) : EReal))
    (j : Fin 200) : layV a0 a1 a2 g0 g1 g2 s wt wb (ix2 i j) = ((layR x θ δ ρ W h0 h m j : ℝ) : EReal) := by
  rw [← layR_fold]
  have hmix : ∀ k, (addf (addf (mulf (broadcastTo S640x200 a0 broadcasts_S640x1_S640x200) g0)
          (mulf (broadcastTo S640x200 a1 broadcasts_S640x1_S640x200) g1))
          (mulf (broadcastTo S640x200 a2 broadcasts_S640x1_S640x200) g2)) (ix2 i k) = ((mixR x h m k : ℝ) : EReal) := by
    intro k
    show broadcastTo S640x200 a0 broadcasts_S640x1_S640x200 (ix2 i k) * g0 (ix2 i k)
      + broadcastTo S640x200 a1 broadcasts_S640x1_S640x200 (ix2 i k) * g1 (ix2 i k)
      + broadcastTo S640x200 a2 broadcasts_S640x1_S640x200 (ix2 i k) * g2 (ix2 i k) = _
    rw [bcol_apply, bcol_apply, bcol_apply, ha0, ha1, ha2, hg0, hg1, hg2]
    simp only [← EReal.coe_mul, ← EReal.coe_add]
    rfl
  have e : layV a0 a1 a2 g0 g1 g2 s wt wb (ix2 i j) = max
      (matmul dot_S640x200_S200x200_S640x200_1_0_0_1_n_n none
        (addf (addf (mulf (broadcastTo S640x200 a0 broadcasts_S640x1_S640x200) g0)
          (mulf (broadcastTo S640x200 a1 broadcasts_S640x1_S640x200) g1))
          (mulf (broadcastTo S640x200 a2 broadcasts_S640x1_S640x200) g2)) wt (constant S640x200 .f32 0x00000000#32) (ix2 i j)
        + matmul dot_S640x200_S200x200_S640x200_1_0_0_1_n_n none s wb (constant S640x200 .f32 0x00000000#32) (ix2 i j))
      (Ideal.ofBits .bf16 0x0000#16) := rfl
  rw [e, mm_real hmix (fun k => hwt k j), mm_real hs (fun k => hwb k j), zero16, ← EReal.coe_add, max_c]

/-- What the three nodes' vectors hold: a real function of the row, node and column. -/
def Nodes (g : Fin 3 → FVec Ideal S640x200 .bf16) (h : Fin 640 → Fin 3 → Fin 200 → ℝ) : Prop :=
  ∀ i m k, g m (ix2 i k) = ((h i m k : ℝ) : EReal)

theorem inp_nodes (H : Holds I x0 x1 x2 wi bi w) :
    Nodes ![k0_pay43 (F := Ideal) x0 wi bi, k0_pay43 (F := Ideal) x1 wi bi, k0_pay43 (F := Ideal) x2 wi bi] (fun i => h0R (I.x i) I.w0 I.b) := by
  intro i m k
  match m with
  | ⟨0, _⟩ => exact inp_real H H.h0 i k
  | ⟨1, _⟩ => exact inp_real H H.h1 i k
  | ⟨2, _⟩ => exact inp_real H H.h2 i k

/-- One layer at the three nodes. -/
theorem step_real (H : Holds I x0 x1 x2 wi bi w) {g : Fin 3 → FVec Ideal S640x200 .bf16} {h : Fin 640 → Fin 3 → Fin 200 → ℝ}
    (hg : Nodes g h) (l : Fin 4) (i0 i1) :
    Nodes ![lay0V x0 x1 x2 wi bi (g 0) (g 1) (g 2) (ldW w l.val 0 i0) (ldW w l.val 200 i1),
      lay1V x0 x1 x2 wi bi (g 0) (g 1) (g 2) (ldW w l.val 0 i0) (ldW w l.val 200 i1),
      lay2V x0 x1 x2 wi bi (g 0) (g 1) (g 2) (ldW w l.val 0 i0) (ldW w l.val 200 i1)]
      (fun i => stepR (I.x i) I.w0 I.b I.W l (h i)) := by
  have hwt : ∀ k j : Fin 200, ldW w l.val 0 i0 (ix2 k j)
      = ((thR l * I.W l ⟨k.val, by omega⟩ j + deR l * (if k = j then 1 else 0) : ℝ) : EReal) := fun k j => by
    rw [ldW_apply w l.val 0 i0 k j l.isLt (by omega), ← H.hw0]
    congr 2; apply Fin.ext; show 0 + k.val = k.val; omega
  have hwb : ∀ k j : Fin 200, ldW w l.val 200 i1 (ix2 k j)
      = ((thR l * I.W l ⟨200 + k.val, by omega⟩ j + rhR l * (if k = j then 1 else 0) : ℝ) : EReal) := fun k j => by
    rw [ldW_apply w l.val 200 i1 k j l.isLt (by omega), ← H.hw1]
  intro i m k
  match m with
  | ⟨0, _⟩ =>
    exact lay_real (x := I.x i) (m := 0) (h0 := h0R (I.x i) I.w0 I.b) (h := h i)
      (scl_real (simD I i 0) (d0_real H i) (d0_real H i)) (scl_real (sim01 H i) (d0_real H i) (d1_real H i))
      (scl_real (sim02 H i) (d0_real H i) (d2_real H i)) (hg i 0) (hg i 1) (hg i 2) (inp_real H H.h0 i) hwt hwb k
  | ⟨1, _⟩ =>
    exact lay_real (x := I.x i) (m := 1) (h0 := h0R (I.x i) I.w0 I.b) (h := h i)
      (scl_real (by rw [simR_comm]; exact sim01 H i) (d1_real H i) (d0_real H i)) (scl_real (simD I i 1) (d1_real H i) (d1_real H i))
      (scl_real (sim12 H i) (d1_real H i) (d2_real H i)) (hg i 0) (hg i 1) (hg i 2) (inp_real H H.h1 i) hwt hwb k
  | ⟨2, _⟩ =>
    exact lay_real (x := I.x i) (m := 2) (h0 := h0R (I.x i) I.w0 I.b) (h := h i)
      (scl_real (by rw [simR_comm]; exact sim02 H i) (d2_real H i) (d0_real H i))
      (scl_real (by rw [simR_comm]; exact sim12 H i) (d2_real H i) (d1_real H i))
      (scl_real (simD I i 2) (d2_real H i) (d2_real H i)) (hg i 0) (hg i 1) (hg i 2) (inp_real H H.h2 i) hwt hwb k

theorem g1_real (H : Holds I x0 x1 x2 wi bi w) : Nodes (g1V x0 x1 x2 wi bi w) (fun i => net1 (I.x i) I.w0 I.b I.W) :=
  step_real H (inp_nodes H) 0 inb_S4x400x200_S1x200x200_0_0_0 inb_S4x400x200_S1x200x200_0_200_0
theorem g2_real (H : Holds I x0 x1 x2 wi bi w) : Nodes (g2V x0 x1 x2 wi bi w) (fun i => net2 (I.x i) I.w0 I.b I.W) :=
  step_real H (g1_real H) 1 inb_S4x400x200_S1x200x200_1_0_0 inb_S4x400x200_S1x200x200_1_200_0
theorem g3_real (H : Holds I x0 x1 x2 wi bi w) : Nodes (g3V x0 x1 x2 wi bi w) (fun i => net3 (I.x i) I.w0 I.b I.W) :=
  step_real H (g2_real H) 2 inb_S4x400x200_S1x200x200_2_0_0 inb_S4x400x200_S1x200x200_2_200_0
theorem g4_real (H : Holds I x0 x1 x2 wi bi w) : Nodes (g4V x0 x1 x2 wi bi w) (fun i => net4 (I.x i) I.w0 I.b I.W) :=
  step_real H (g3_real H) 3 inb_S4x400x200_S1x200x200_3_0_0 inb_S4x400x200_S1x200x200_3_200_0

/-- Reading the stored block: piece `k` of six, at column `200k + j`. -/
theorem blkV_piece (k : ℕ) (hk : k < 6) (p : FVec Ideal S640x200 .f32)
    (hp : ∀ h, (bands x0 x1 x2 wi bi w)[k]'h = ⟨S640x200, p⟩)
    (i : Fin 640) (j : Fin 200) (c : Fin 1200) (hc : 200 * k + j.val = c.val) :
    blkV x0 x1 x2 wi bi w (ix2 i c) = p (ix2 i j) := by
  unfold blkV
  refine concatenate_apply_piece (1 : Fin S640x1200.rank) (bands x0 x1 x2 wi bi w) _ (ix2 i c) k hk S640x200 p (hp hk) rfl (200 * k) ?_ (ix2 i j) ?_ hc
  · clear hp hc
    interval_cases k <;> rfl
  · intro b hb
    match b with
    | ⟨0, _⟩ => rfl
    | ⟨1, _⟩ => exact absurd rfl hb

/-- The stored block on real numbers. -/
theorem blkV_real (H : Holds I x0 x1 x2 wi bi w) (i : Fin 640) (c : Fin 1200) :
    blkV x0 x1 x2 wi bi w (ix2 i c) = ((outR (I.x i) I.w0 I.b I.W c : ℝ) : EReal) := by
  have hdiv : c.val = 400 * (c.val / 400) + c.val % 400 := (Nat.div_add_mod _ _).symm
  have hq : c.val / 400 < 3 := by omega
  unfold outR
  split
  · rename_i h
    obtain hq | hq | hq : c.val / 400 = 0 ∨ c.val / 400 = 1 ∨ c.val / 400 = 2 := by omega
    · rw [blkV_piece 0 (by decide) _ (fun _ => rfl) i ⟨c.val % 400, h⟩ c (by simp only; omega), H.h0]
      congr 3; exact Fin.ext hq.symm
    · rw [blkV_piece 2 (by decide) _ (fun _ => rfl) i ⟨c.val % 400, h⟩ c (by simp only; omega), H.h1]
      congr 3; exact Fin.ext hq.symm
    · rw [blkV_piece 4 (by decide) _ (fun _ => rfl) i ⟨c.val % 400, h⟩ c (by simp only; omega), H.h2]
      congr 3; exact Fin.ext hq.symm
  · rename_i h
    have e : ∀ m : Fin 3, extf (F := Ideal) .f32 (g4V x0 x1 x2 wi bi w m) bitsLt_bf16_f32 (ix2 i ⟨c.val % 400 - 200, by omega⟩)
        = ((net4 (I.x i) I.w0 I.b I.W m ⟨c.val % 400 - 200, by omega⟩ : ℝ) : EReal) := fun m => g4_real H i m _
    obtain hq | hq | hq : c.val / 400 = 0 ∨ c.val / 400 = 1 ∨ c.val / 400 = 2 := by omega
    · rw [blkV_piece 1 (by decide) _ (fun _ => rfl) i ⟨c.val % 400 - 200, by omega⟩ c (by simp only; omega), e]
      congr 3; exact Fin.ext hq.symm
    · rw [blkV_piece 3 (by decide) _ (fun _ => rfl) i ⟨c.val % 400 - 200, by omega⟩ c (by simp only; omega), e]
      congr 3; exact Fin.ext hq.symm
    · rw [blkV_piece 5 (by decide) _ (fun _ => rfl) i ⟨c.val % 400 - 200, by omega⟩ c (by simp only; omega), e]
      congr 3; exact Fin.ext hq.symm

end Value

end Cert.Proof.Block

end
-- ==== Proof.KernelPoint.lean ====
/-
  A grid point's body by its cases: what it stores in the output block is the block function of its input blocks and the
  weights' scratch (the scratch it has just written at the first point, the one it finds at the second).
-/
module

public import proofs.«01_k».proof.Proof.KernelBlock

@[expose] public section

noncomputable section

namespace Cert.Proof.Block

open Idealize.ShloMosaic Idealize.ShloMosaic.ValueIdx Cert.KernelIdeal Cert.KernelIdeal.Gen
open scoped BigOperators

/-- The third feature's block: the utterance plus the embedding row its speaker flags pick. -/
def spkV (x2 : Vec Ideal S640x200 .f32) (x3 : Vec Ideal S640x2 .f32) (x4 : Vec Ideal S3x200 .f32) : FVec Ideal S640x200 .f32 :=
  k0_pay12 (F := Ideal) x2 x3 (View.ld x4 (Rect.unit ![1, 0] S1x200.size inb_S3x200_S1x200_1_0))
    (View.ld x4 (Rect.unit ![0, 0] S1x200.size inb_S3x200_S1x200_0_0))

theorem ldx (x : Vec Ideal S640x200 .f32) : View.ld x (Rect.unit (s := S640x200) ![0, 0] S640x200.size inb_S640x200_S640x200_0_0) = x :=
  View.ld_unit_zero (by decide) _ x
theorem ldq (x : Vec Ideal S640x2 .f32) : View.ld x (Rect.unit (s := S640x2) ![0, 0] S640x2.size inb_S640x2_S640x2_0_0) = x :=
  View.ld_unit_zero (by decide) _ x
theorem ldwi (x : Vec Ideal S200x200 .f32) : View.ld x (Rect.unit (s := S200x200) ![0, 0] S200x200.size inb_S200x200_S200x200_0_0) = x :=
  View.ld_unit_zero (by decide) _ x
theorem ldbi (x : Vec Ideal S1x200 .f32) : View.ld x (Rect.unit (s := S1x200) ![0, 0] S1x200.size inb_S1x200_S1x200_0_0) = x :=
  View.ld_unit_zero (by decide) _ x

/-- The second point's stored block. -/
theorem outB_eq (c : Dev nD) (i : grid0.Coords) (arg1 : Memref sig .tc .vmem S640x200 .f32) (harg1 : arg1.IsWhole) (arg2 : Memref sig .tc .vmem S640x200 .f32) (harg2 : arg2.IsWhole) (arg3 : Memref sig .tc .vmem S640x200 .f32) (harg3 : arg3.IsWhole) (arg4 : Memref sig .tc .vmem S640x2 .f32) (harg4 : arg4.IsWhole) (arg5 : Memref sig .tc .vmem S3x200 .f32) (harg5 : arg5.IsWhole) (arg6 : Memref sig .tc .vmem S200x200 .f32) (harg6 : arg6.IsWhole) (arg7 : Memref sig .tc .vmem S1x200 .f32) (harg7 : arg7.IsWhole) (arg8 : Memref sig .tc .vmem S4x400x200 .f32) (harg8 : arg8.IsWhole) (arg9 : Memref sig .tc .vmem S640x1200 .f32) (harg9 : arg9.IsWhole) (arg10 : Memref sig .tc .vmem S4x400x200 .bf16) (harg10 : arg10.IsWhole) (hc0 : ¬cond0_0 i)
    (x0 : Vec Ideal S640x200 .f32) (x1 : Vec Ideal S640x200 .f32) (x2 : Vec Ideal S640x200 .f32) (x3 : Vec Ideal S640x2 .f32) (x4 : Vec Ideal S3x200 .f32) (x5 : Vec Ideal S200x200 .f32) (x6 : Vec Ideal S1x200 .f32) (x7 : Vec Ideal S4x400x200 .f32) (xs0 : Vec Ideal S4x400x200 .bf16) :
    out0_B_8 c i arg1 harg1 arg2 harg2 arg3 harg3 arg4 harg4 arg5 harg5 arg6 harg6 arg7 harg7 arg8 harg8 arg9 harg9 arg10 harg10 hc0 x0 x1 x2 x3 x4 x5 x6 x7 xs0 = blkV x0 x1 (spkV x2 x3 x4) x5 x6 xs0 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  rw [View.canon_unit_zero (by decide)]
  simp only [View.readAt_eq_ld, harg1.read_unread, harg2.read_unread, harg3.read_unread, harg4.read_unread, harg5.read_unread, harg6.read_unread, harg7.read_unread, harg8.read_unread, harg10.read_unread]
  rw [ldwi, ldbi, ldq]
  rw [ldx x0, ldx x1, ldx x2]
  rfl

/-- The first point's stored block: the same function, of the scratch that point leaves. -/
theorem outA_eq (c : Dev nD) (i : grid0.Coords) (arg1 : Memref sig .tc .vmem S640x200 .f32) (harg1 : arg1.IsWhole) (arg2 : Memref sig .tc .vmem S640x200 .f32) (harg2 : arg2.IsWhole) (arg3 : Memref sig .tc .vmem S640x200 .f32) (harg3 : arg3.IsWhole) (arg4 : Memref sig .tc .vmem S640x2 .f32) (harg4 : arg4.IsWhole) (arg5 : Memref sig .tc .vmem S3x200 .f32) (harg5 : arg5.IsWhole) (arg6 : Memref sig .tc .vmem S200x200 .f32) (harg6 : arg6.IsWhole) (arg7 : Memref sig .tc .vmem S1x200 .f32) (harg7 : arg7.IsWhole) (arg8 : Memref sig .tc .vmem S4x400x200 .f32) (harg8 : arg8.IsWhole) (arg9 : Memref sig .tc .vmem S640x1200 .f32) (harg9 : arg9.IsWhole) (arg10 : Memref sig .tc .vmem S4x400x200 .bf16) (harg10 : arg10.IsWhole) (hc0 : cond0_0 i)
    (x0 : Vec Ideal S640x200 .f32) (x1 : Vec Ideal S640x200 .f32) (x2 : Vec Ideal S640x200 .f32) (x3 : Vec Ideal S640x2 .f32) (x4 : Vec Ideal S3x200 .f32) (x5 : Vec Ideal S200x200 .f32) (x6 : Vec Ideal S1x200 .f32) (x7 : Vec Ideal S4x400x200 .f32) :
    out0_A_8 c i arg1 harg1 arg2 harg2 arg3 harg3 arg4 harg4 arg5 harg5 arg6 harg6 arg7 harg7 arg8 harg8 arg9 harg9 arg10 harg10 hc0 x0 x1 x2 x3 x4 x5 x6 x7 = blkV x0 x1 (spkV x2 x3 x4) x5 x6
      (sout0_A_0 c i arg1 harg1 arg2 harg2 arg3 harg3 arg4 harg4 arg5 harg5 arg6 harg6 arg7 harg7 arg8 harg8 arg9 harg9 arg10 harg10 hc0 x0 x1 x2 x3 x4 x5 x6 x7) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6 x7)]
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_unit_zero (by decide)]
  simp only [View.readAt_eq_ld, harg1.read_unread, harg2.read_unread, harg3.read_unread, harg4.read_unread, harg5.read_unread, harg6.read_unread, harg7.read_unread, harg8.read_unread]
  rw [ldwi, ldbi, ldq]
  rw [ldx x0, ldx x1, ldx x2]
  simp only [View.readCov_eq_canon']
  generalize View.canon (Val := Elt Ideal) _ = w
  rfl

end Cert.Proof.Block

end
-- ==== Proof.KernelScratch.lean ====
/-
  The weights' scratch after the first point: each layer's weights scaled by θ, with a multiple of the identity added to
  each half, so that one product with the scratch is the layer's product plus its two residual terms.
-/
module

public import proofs.«01_k».proof.Proof.KernelPoint
public import Idealize.ShloMosaic.Lib.Pipeline.ValueKit
public import Idealize.ShloMosaic.Lib.Pipeline.CanonAppend

@[expose] public section

noncomputable section

namespace Cert.Proof.Block

open Idealize.ShloMosaic hiding ix1 ix2 ix3 eq_ix1 eq_ix2 eq_ix3
open Idealize.ShloMosaic.ValueIdx Cert.KernelIdeal Cert.KernelIdeal.Gen
open scoped BigOperators

/-- The folded weights of layer `l`: the first half carries the mixed row's identity, the second the input layer's. -/
def wpR (W : Fin 4 → Fin 400 → Fin 200 → ℝ) (l : Fin 4) (k : Fin 400) (j : Fin 200) : ℝ :=
  thR l * W l k j + (if k.val < 200 then deR l else rhR l) * (if k.val % 200 = j.val then 1 else 0)

/-- The identity matrix the kernel builds from two index ramps. -/
theorem eye_apply (k j : Fin 200) : k0_pay1 (F := Ideal) (ix2 k j) = (((if k = j then 1 else 0 : ℝ)) : EReal) := by
  have e : k0_pay1 (F := Ideal) (ix2 k j) = FloatOps.sitofp (F := Ideal) .f32 ((Scalar.cmpi .eq
      (iota .tc S200x200 32 [0] iota_S200x200_d0_w32 (ix2 k j)) (iota .tc S200x200 32 [1] iota_S200x200_d1_w32 (ix2 k j))).setWidth 32) := rfl
  rw [e, iota_single_apply, iota_single_apply]
  show (((((Scalar.cmpi .eq (BitVec.ofNat 32 k.val) (BitVec.ofNat 32 j.val)).setWidth 32).toInt : ℝ)) : EReal) = _
  by_cases h : k = j
  · subst h; simp [Scalar.cmpi, IntOp.cmpi]
  · have : BitVec.ofNat 32 k.val ≠ BitVec.ofNat 32 j.val := by
      intro e
      have := congrArg BitVec.toNat e
      simp only [BitVec.toNat_ofNat] at this
      exact h (Fin.ext (by omega))
    have hb : (BitVec.ofNat 32 k.val == BitVec.ofNat 32 j.val) = false := by simpa using this
    simp only [Scalar.cmpi, IntOp.cmpi, hb, h]; simp

/-- One slab of folded weights: `a·v + c·eye`. -/
def wpV (a c : BitVec 32) (v : FVec Ideal S1x200x200 .f32) : FVec Ideal S1x200x200 .bf16 :=
  shapeCast S1x200x200 (truncf (F := Ideal) .bf16 (addf (mulf (broadcast S200x200 (Scalar.ofBits (F := Ideal) .f32 a))
      (shapeCast S200x200 v shapeCasts_S1x200x200_S200x200))
    (mulf (broadcast S200x200 (Scalar.ofBits (F := Ideal) .f32 c)) (k0_pay1 (F := Ideal)))) bitsLt_bf16_f32) shapeCasts_S200x200_S1x200x200

theorem wpV_apply (a c : BitVec 32) (v : FVec Ideal S1x200x200 .f32) (k j : Fin 200) {r s t : ℝ}
    (ha : Ideal.ofBits .f32 a = ((r : ℝ) : EReal)) (hc : Ideal.ofBits .f32 c = ((s : ℝ) : EReal)) (hv : v (ix3 0 k j) = ((t : ℝ) : EReal)) :
    wpV a c v (ix3 0 k j) = ((r * t + s * (if k = j then 1 else 0) : ℝ) : EReal) := by
  unfold wpV
  rw [shapeCast_ab_1ab_apply]
  show Ideal.ofBits .f32 a * shapeCast S200x200 v shapeCasts_S1x200x200_S200x200 (ix2 k j)
    + Ideal.ofBits .f32 c * k0_pay1 (F := Ideal) (ix2 k j) = _
  rw [shapeCast_1ab_ab_apply, ha, hc, hv, eye_apply, ← EReal.coe_mul, ← EReal.coe_mul, ← EReal.coe_add]

/-- The scratch's contents as one array. -/
def wpG (W : Fin 4 → Fin 400 → Fin 200 → ℝ) : Vec Ideal S4x400x200 .bf16 := fun y => ((wpR W (y 0) (y 1) (y 2) : ℝ) : EReal)

theorem piece (W : Fin 4 → Fin 400 → Fin 200 → ℝ) {x7 : Vec Ideal S4x400x200 .f32}
    (hx : ∀ l k j, x7 (ix3 l k j) = ((W l k j : ℝ) : EReal)) (l : Fin 4) (o : ℕ) (ho : o = 0 ∨ o = 200) (a c : BitVec 32)
    (ha : Ideal.ofBits .f32 a = ((thR l : ℝ) : EReal))
    (hc : Ideal.ofBits .f32 c = ((if o = 0 then deR l else rhR l : ℝ) : EReal)) (inb inb') (x : S1x200x200.Idx) :
    wpV a c (View.ld x7 (Rect.unit (s := S4x400x200) ![l.val, o, 0] S1x200x200.size inb)) x
      = wpG W ((Rect.unit (s := S4x400x200) ![l.val, o, 0] S1x200x200.size inb').emb x) := by
  obtain ⟨i, k, j, rfl⟩ : ∃ (i : Fin 1) (k j : Fin 200), x = ix3 i k j := ⟨x 0, x 1, x 2, eq_ix3 x⟩
  obtain rfl : i = 0 := Subsingleton.elim _ _
  have hk : o + k.val < 400 := by omega
  have he : (Rect.unit (s := S4x400x200) ![l.val, o, 0] S1x200x200.size inb').emb (ix3 (0 : Fin 1) k j)
      = ix3 l ⟨o + k.val, hk⟩ j := by
    funext b
    apply Fin.ext
    rw [ValueKit.rect_emb_unit_val]
    match b with
    | ⟨0, _⟩ => rfl
    | ⟨1, _⟩ => rfl
    | ⟨2, _⟩ => show 0 + j.val = j.val; omega
  have hv : View.ld x7 (Rect.unit (s := S4x400x200) ![l.val, o, 0] S1x200x200.size inb) (ix3 (0 : Fin 1) k j)
      = ((W l ⟨o + k.val, hk⟩ j : ℝ) : EReal) := by
    rw [← hx]
    refine View.ld_unit_apply_of _ _ _ _ _ _ fun b => ?_
    match b with
    | ⟨0, _⟩ => rfl
    | ⟨1, _⟩ => rfl
    | ⟨2, _⟩ => show j.val = 0 + j.val; omega
  rw [he, wpV_apply a c _ k j ha hc hv]
  show _ = ((wpR W l ⟨o + k.val, hk⟩ j : ℝ) : EReal)
  unfold wpR
  have e1 : (k = j) = ((o + k.val) % 200 = j.val) := by
    apply propext; rw [Fin.ext_iff]; rcases ho with rfl | rfl <;> omega
  have e2 : (o = 0) = (o + k.val < 200) := by apply propext; rcases ho with rfl | rfl <;> omega
  simp only [e1, e2]

/-- What the first point leaves in the scratch. -/
theorem scratch_eq (W : Fin 4 → Fin 400 → Fin 200 → ℝ) (c : Dev nD) (i : grid0.Coords) (arg1 : Memref sig .tc .vmem S640x200 .f32) (harg1 : arg1.IsWhole) (arg2 : Memref sig .tc .vmem S640x200 .f32) (harg2 : arg2.IsWhole) (arg3 : Memref sig .tc .vmem S640x200 .f32) (harg3 : arg3.IsWhole) (arg4 : Memref sig .tc .vmem S640x2 .f32) (harg4 : arg4.IsWhole) (arg5 : Memref sig .tc .vmem S3x200 .f32) (harg5 : arg5.IsWhole) (arg6 : Memref sig .tc .vmem S200x200 .f32) (harg6 : arg6.IsWhole) (arg7 : Memref sig .tc .vmem S1x200 .f32) (harg7 : arg7.IsWhole) (arg8 : Memref sig .tc .vmem S4x400x200 .f32) (harg8 : arg8.IsWhole) (arg9 : Memref sig .tc .vmem S640x1200 .f32) (harg9 : arg9.IsWhole) (arg10 : Memref sig .tc .vmem S4x400x200 .bf16) (harg10 : arg10.IsWhole) (hc0 : cond0_0 i)
    (x0 : Vec Ideal S640x200 .f32) (x1 : Vec Ideal S640x200 .f32) (x2 : Vec Ideal S640x200 .f32) (x3 : Vec Ideal S640x2 .f32) (x4 : Vec Ideal S3x200 .f32) (x5 : Vec Ideal S200x200 .f32) (x6 : Vec Ideal S1x200 .f32) (x7 : Vec Ideal S4x400x200 .f32)
    (hx : ∀ l k j, x7 (ix3 l k j) = ((W l k j : ℝ) : EReal)) :
    sout0_A_0 c i arg1 harg1 arg2 harg2 arg3 harg3 arg4 harg4 arg5 harg5 arg6 harg6 arg7 harg7 arg8 harg8 arg9 harg9 arg10 harg10 hc0 x0 x1 x2 x3 x4 x5 x6 x7 = wpG W := by
  have hcov := scover0_A_0 c i arg1 harg1 arg2 harg2 arg3 harg3 arg4 harg4 arg5 harg5 arg6 harg6 arg7 harg7 arg8 harg8 arg9 harg9 arg10 harg10 hc0 x0 x1 x2 x3 x4 x5 x6 x7
  unfold sout0_A_0
  rw [View.read_writes_eq_canon _ _ _ hcov]
  funext y
  rw [← List.append_nil (kernelRun0_A c i arg1 harg1 arg2 harg2 arg3 harg3 arg4 harg4 arg5 harg5 arg6 harg6 arg7 harg7 arg8 harg8 arg9 harg9 arg10 harg10 hc0 x0 x1 x2 x3 x4 x5 x6 x7).2.1]
  refine View.canon_append_of_pieces (wpG W) [] _ ?_ y (hcov y)
  clear hcov
  unfold kernelRun0_A
  dsimp only
  sl_unfold_words
  simp only [View.readAt_eq_ld, harg8.read_unread]
  intro p hp
  simp only [List.mem_cons, List.not_mem_nil, or_false] at hp
  rcases hp with rfl | rfl | rfl | rfl | rfl | rfl | rfl | rfl <;> intro x
  · exact piece W hx 3 200 (by decide) 0x3DF1383B#32 0x3DB4AD94#32 (ofBits_lit (by decide)) (ofBits_lit (by decide)) inb_S4x400x200_S1x200x200_3_200_0 inb_S4x400x200_S1x200x200_3_200_0 x
  · exact piece W hx 3 0 (by decide) 0x3DF1383B#32 0x3F4B4346#32 (ofBits_lit (by decide)) (ofBits_lit (by decide)) inb_S4x400x200_S1x200x200_3_0_0 inb_S4x400x200_S1x200x200_3_0_0 x
  · exact piece W hx 2 200 (by decide) 0x3E1DD9AD#32 0x3DAD3ADD#32 (ofBits_lit (by decide)) (ofBits_lit (by decide)) inb_S4x400x200_S1x200x200_2_200_0 inb_S4x400x200_S1x200x200_2_200_0 x
  · exact piece W hx 2 0 (by decide) 0x3E1DD9AD#32 0x3F42E239#32 (ofBits_lit (by decide)) (ofBits_lit (by decide)) inb_S4x400x200_S1x200x200_2_0_0 inb_S4x400x200_S1x200x200_2_0_0 x
  · exact piece W hx 1 200 (by decide) 0x3E647FBE#32 0x3D9F19A7#32 (ofBits_lit (by decide)) (ofBits_lit (by decide)) inb_S4x400x200_S1x200x200_1_200_0 inb_S4x400x200_S1x200x200_1_200_0 x
  · exact piece W hx 1 0 (by decide) 0x3E647FBE#32 0x3F32FCDC#32 (ofBits_lit (by decide)) (ofBits_lit (by decide)) inb_S4x400x200_S1x200x200_1_0_0 inb_S4x400x200_S1x200x200_1_0_0 x
  · exact piece W hx 0 200 (by decide) 0x3ECF991F#32 0x3D738580#32 (ofBits_lit (by decide)) (ofBits_lit (by decide)) inb_S4x400x200_S1x200x200_0_200_0 inb_S4x400x200_S1x200x200_0_200_0 x
  · exact piece W hx 0 0 (by decide) 0x3ECF991F#32 0x3F08FB18#32 (ofBits_lit (by decide)) (ofBits_lit (by decide)) inb_S4x400x200_S1x200x200_0_0_0 inb_S4x400x200_S1x200x200_0_0_0 x

end Cert.Proof.Block

end
-- ==== Proof.KernelArray.lean ====
/-
  The array the kernel leaves: at row `r` and column `c` the function `outR` of row `r`, whichever of the two points
  wrote it. The second point reads the scratch the first one filled.
-/
module

public import proofs.«01_k».proof.Proof.Given
public import proofs.«01_k».proof.Proof.KernelScratch

@[expose] public section

noncomputable section

namespace Cert.Proof.Block

open Idealize.ShloMosaic hiding ix1 ix2 ix3 eq_ix1 eq_ix2 eq_ix3
open Idealize.ShloMosaic.TcCoe Idealize.SL.Sem
open Idealize.ShloMosaic.ValueIdx Cert.KernelIdeal Cert.KernelIdeal.Gen Cert.KernelIdeal.Value
open scoped BigOperators

variable (m : (ℓ : Loc nD τ sig) → Buf (Elt Ideal) ℓ) (c : Dev nD)

/-! ### The blocks -/

/-- Row `i` of point `t`'s block, in the whole array. -/
def rowOf (t : Fin cfg0.N) (i : Fin 640) : Fin 1280 := ⟨t.val * 640 + i.val, by have := lt_of_lt_of_eq t.isLt N_0; omega⟩

theorem V_qmask : V m c main_v0 = shapeCast S1280x2 (m ((c : Thread nD τ).loc main_arg4)) shapeCasts_S1x1280x2_S1280x2 := by
  unfold V hostOps0
  after_results
  rfl
theorem V_bias : V m c main_v1 = shapeCast S1x200 (m ((c : Thread nD τ).loc main_arg7)) shapeCasts_S200_S1x200 := by
  unfold V hostOps0
  after_results
  rfl

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 ∧ win0_7.index t 2 = 0 :=
  (by decide +kernel : ∀ t : Fin grid0.N, _)

theorem blk0 (t : Fin cfg0.N) (i : Fin 640) (k : Fin 200) :
    (iblk m c 0 t : Vec Ideal S640x200 .f32) (ix2 i k) = m ((c : Thread nD τ).loc main_arg0) (ix2 (rowOf t i) k) := by
  unfold iblk
  rw [View.read_apply]
  show V m c main_arg0 _ = _
  rw [V_main_arg0]
  congr 1
  funext a
  apply Fin.ext
  match a with
  | ⟨0, _⟩ => show win0_0.index t 0 * 640 + 1 * i.val = t.val * 640 + i.val; rw [(idx0 t).1]; omega
  | ⟨1, _⟩ => show win0_0.index t 1 * 200 + 1 * k.val = k.val; rw [(idx0 t).2]; omega
theorem blk1 (t : Fin cfg0.N) (i : Fin 640) (k : Fin 200) :
    (iblk m c 1 t : Vec Ideal S640x200 .f32) (ix2 i k) = m ((c : Thread nD τ).loc main_arg1) (ix2 (rowOf t i) k) := by
  unfold iblk
  rw [View.read_apply]
  show V m c main_arg1 _ = _
  rw [V_main_arg1]
  congr 1
  funext a
  apply Fin.ext
  match a with
  | ⟨0, _⟩ => show win0_1.index t 0 * 640 + 1 * i.val = t.val * 640 + i.val; rw [(idx1 t).1]; omega
  | ⟨1, _⟩ => show win0_1.index t 1 * 200 + 1 * k.val = k.val; rw [(idx1 t).2]; omega
theorem blk2 (t : Fin cfg0.N) (i : Fin 640) (k : Fin 200) :
    (iblk m c 2 t : Vec Ideal S640x200 .f32) (ix2 i k) = m ((c : Thread nD τ).loc main_arg2) (ix2 (rowOf t i) k) := by
  unfold iblk
  rw [View.read_apply]
  show V m c main_arg2 _ = _
  rw [V_main_arg2]
  congr 1
  funext a
  apply Fin.ext
  match a with
  | ⟨0, _⟩ => show win0_2.index t 0 * 640 + 1 * i.val = t.val * 640 + i.val; rw [(idx2 t).1]; omega
  | ⟨1, _⟩ => show win0_2.index t 1 * 200 + 1 * k.val = k.val; rw [(idx2 t).2]; omega
theorem blk3 (t : Fin cfg0.N) (i : Fin 640) (k : Fin 2) :
    (iblk m c 3 t : Vec Ideal S640x2 .f32) (ix2 i k) = m ((c : Thread nD τ).loc main_arg4) (ix3 0 (rowOf t i) k) := by
  unfold iblk
  rw [View.read_apply]
  show V m c main_v0 _ = _
  rw [V_qmask, ← shapeCast_1ab_ab_apply (m ((c : Thread nD τ).loc main_arg4)) shapeCasts_S1x1280x2_S1280x2]
  congr 1
  funext a
  apply Fin.ext
  match a with
  | ⟨0, _⟩ => show win0_3.index t 0 * 640 + 1 * i.val = t.val * 640 + i.val; rw [(idx3 t).1]; omega
  | ⟨1, _⟩ => show win0_3.index t 1 * 2 + 1 * k.val = k.val; rw [(idx3 t).2]; omega
theorem blk4 (t : Fin cfg0.N) (i : Fin 3) (k : Fin 200) :
    (iblk m c 4 t : Vec Ideal S3x200 .f32) (ix2 i k) = m ((c : Thread nD τ).loc main_arg5) (ix2 i k) := by
  unfold iblk
  rw [View.read_apply]
  show V m c main_arg5 _ = _
  rw [V_main_arg5]
  congr 1
  funext a
  apply Fin.ext
  match a with
  | ⟨0, _⟩ => show win0_4.index t 0 * 3 + 1 * i.val = i.val; rw [(idx4 t).1]; omega
  | ⟨1, _⟩ => show win0_4.index t 1 * 200 + 1 * k.val = k.val; rw [(idx4 t).2]; omega
theorem blk5 (t : Fin cfg0.N) (i : Fin 200) (k : Fin 200) :
    (iblk m c 5 t : Vec Ideal S200x200 .f32) (ix2 i k) = m ((c : Thread nD τ).loc main_arg6) (ix2 i k) := by
  unfold iblk
  rw [View.read_apply]
  show V m c main_arg6 _ = _
  rw [V_main_arg6]
  congr 1
  funext a
  apply Fin.ext
  match a with
  | ⟨0, _⟩ => show win0_5.index t 0 * 200 + 1 * i.val = i.val; rw [(idx5 t).1]; omega
  | ⟨1, _⟩ => show win0_5.index t 1 * 200 + 1 * k.val = k.val; rw [(idx5 t).2]; omega
theorem blk6 (t : Fin cfg0.N) (k : Fin 200) :
    (iblk m c 6 t : Vec Ideal S1x200 .f32) (ix2 0 k) = m ((c : Thread nD τ).loc main_arg7) (ix1 k) := by
  unfold iblk
  rw [View.read_apply]
  show V m c main_v1 _ = _
  rw [V_bias, ← shapeCast_a_1a_apply (m ((c : Thread nD τ).loc main_arg7)) shapeCasts_S200_S1x200 0]
  congr 1
  funext a
  apply Fin.ext
  match a with
  | ⟨0, _⟩ => show win0_6.index t 0 * 1 + 1 * 0 = 0; rw [(idx6 t).1]
  | ⟨1, _⟩ => show win0_6.index t 1 * 200 + 1 * k.val = k.val; rw [(idx6 t).2]; omega
theorem blk7 (t : Fin cfg0.N) (l : Fin 4) (k : Fin 400) (j : Fin 200) :
    (iblk m c 7 t : Vec Ideal S4x400x200 .f32) (ix3 l k j) = m ((c : Thread nD τ).loc main_arg8) (ix3 l k j) := by
  unfold iblk
  rw [View.read_apply]
  show V m c main_arg8 _ = _
  rw [V_main_arg8]
  congr 1
  funext a
  apply Fin.ext
  match a with
  | ⟨0, _⟩ => show win0_7.index t 0 * 4 + 1 * l.val = l.val; rw [(idx7 t).1]; omega
  | ⟨1, _⟩ => show win0_7.index t 1 * 400 + 1 * k.val = k.val; rw [(idx7 t).2.1]; omega
  | ⟨2, _⟩ => show win0_7.index t 2 * 200 + 1 * j.val = j.val; rw [(idx7 t).2.2]; omega

/-- The third feature with the speaker's row added, at an index. -/
theorem spkV_apply (x2 : Vec Ideal S640x200 .f32) (x3 : Vec Ideal S640x2 .f32) (x4 : Vec Ideal S3x200 .f32) (i : Fin 640) (k : Fin 200) :
    spkV x2 x3 x4 (ix2 i k) = x2 (ix2 i k) + x4 (ix2 (pick (x3 (ix2 i 0)) (x3 (ix2 i 1))) k) := by
  have e : spkV x2 x3 x4 (ix2 i k) = x2 (ix2 i k) + Scalar.select
      (broadcastTo S640x200 (shapeCast S640x1 (cmpf (F := Ideal) .ogt
          (extractStridedSlice S640x1 ![0, 1] (shapeCast S640x2 x3 shapeCasts_S640x2_S640x2) slices_S640x2_o0_1_S640x1)
          (extractStridedSlice S640x1 ![0, 0] (shapeCast S640x2 x3 shapeCasts_S640x2_S640x2) slices_S640x2_o0_0_S640x1))
        shapeCasts_S640x1_S640x1) broadcasts_S640x1_S640x200 (ix2 i k))
      (broadcastTo S640x200 (shapeCast S1x200 (View.ld x4 (Rect.unit (s := S3x200) ![1, 0] S1x200.size inb_S3x200_S1x200_1_0))
        shapeCasts_S1x200_S1x200) broadcasts_S1x200_S640x200 (ix2 i k))
      (broadcastTo S640x200 (shapeCast S1x200 (View.ld x4 (Rect.unit (s := S3x200) ![0, 0] S1x200.size inb_S3x200_S1x200_0_0))
        shapeCasts_S1x200_S1x200) broadcasts_S1x200_S640x200 (ix2 i k)) := rfl
  have hr1 : shapeCast S1x200 (View.ld x4 (Rect.unit (s := S3x200) ![1, 0] S1x200.size inb_S3x200_S1x200_1_0))
      shapeCasts_S1x200_S1x200 (ix2 (0 : Fin 1) k) = x4 (ix2 1 k) := by
    refine (congrFun (shapeCast_self _ _) _).trans ?_
    refine View.ld_unit_apply_of _ _ _ _ _ _ fun b => ?_
    match b with
    | ⟨0, _⟩ => rfl
    | ⟨1, _⟩ => show k.val = 0 + k.val; omega
  have hr0 : shapeCast S1x200 (View.ld x4 (Rect.unit (s := S3x200) ![0, 0] S1x200.size inb_S3x200_S1x200_0_0))
      shapeCasts_S1x200_S1x200 (ix2 (0 : Fin 1) k) = x4 (ix2 0 k) := by
    refine (congrFun (shapeCast_self _ _) _).trans ?_
    refine View.ld_unit_apply_of _ _ _ _ _ _ fun b => ?_
    match b with
    | ⟨0, _⟩ => rfl
    | ⟨1, _⟩ => show k.val = 0 + k.val; omega
  rw [e, bcol_apply, brow_apply, brow_apply, hr1, hr0]
  simp only [shapeCast_self]
  have hs1 : extractStridedSlice S640x1 ![0, 1] x3 slices_S640x2_o0_1_S640x1 (ix2 i (0 : Fin 1)) = x3 (ix2 i 1) :=
    extractStridedSlice_apply _ _ _ _ _ fun b => by
      match b with
      | ⟨0, _⟩ => show i.val = 0 + i.val; omega
      | ⟨1, _⟩ => rfl
  have hs0 : extractStridedSlice S640x1 ![0, 0] x3 slices_S640x2_o0_0_S640x1 (ix2 i (0 : Fin 1)) = x3 (ix2 i 0) :=
    extractStridedSlice_apply _ _ _ _ _ fun b => by
      match b with
      | ⟨0, _⟩ => show i.val = 0 + i.val; omega
      | ⟨1, _⟩ => rfl
  show x2 (ix2 i k) + Scalar.select (Ideal.cmp .ogt (extractStridedSlice S640x1 ![0, 1] x3 slices_S640x2_o0_1_S640x1 (ix2 i (0 : Fin 1)))
    (extractStridedSlice S640x1 ![0, 0] x3 slices_S640x2_o0_0_S640x1 (ix2 i (0 : Fin 1)))) _ _ = _
  rw [hs1, hs0]
  unfold Scalar.select Ideal.cmp pick
  by_cases h : x3 (ix2 i 0) < x3 (ix2 i 1) <;> simp [h]

variable (Γ : Given (m ((c : Thread nD τ).loc main_arg0)) (m ((c : Thread nD τ).loc main_arg1)) (m ((c : Thread nD τ).loc main_arg2))
  (m ((c : Thread nD τ).loc main_arg4)) (m ((c : Thread nD τ).loc main_arg5)) (m ((c : Thread nD τ).loc main_arg6))
  (m ((c : Thread nD τ).loc main_arg7)) (m ((c : Thread nD τ).loc main_arg8)))

/-- Point `t`'s inputs as real numbers. -/
def inputs (t : Fin cfg0.N) : Inputs where
  x i := Γ.x (rowOf t i)
  w0 := Γ.w0
  b := Γ.b
  W := Γ.W
  pos i := Γ.pos (rowOf t i)

theorem holds (t : Fin cfg0.N) : Holds (inputs m c Γ t) (iblk m c 0 t) (iblk m c 1 t)
    (spkV (iblk m c 2 t) (iblk m c 3 t) (iblk m c 4 t)) (iblk m c 5 t) (iblk m c 6 t) (wpG Γ.W) where
  h0 i k := (blk0 m c t i k).trans (Γ.h0 _ _)
  h1 i k := (blk1 m c t i k).trans (Γ.h1 _ _)
  h2 i k := by
    rw [spkV_apply, blk2, blk3, blk3, blk4]
    exact Γ.h2 _ _
  hwi k j := (blk5 m c t k j).trans (Γ.hw0 _ _)
  hbi j := (blk6 m c t j).trans (Γ.hb _)
  hw0 l k j := by
    show ((wpR Γ.W l ⟨k.val, _⟩ j : ℝ) : EReal) = _
    unfold wpR
    have e : (k.val % 200 = j.val) = (k = j) := by apply propext; rw [Fin.ext_iff]; omega
    simp only [e, k.isLt, if_true]
    rfl
  hw1 l k j := by
    show ((wpR Γ.W l ⟨200 + k.val, _⟩ j : ℝ) : EReal) = _
    unfold wpR
    have e : ((200 + k.val) % 200 = j.val) = (k = j) := by apply propext; rw [Fin.ext_iff]; omega
    have e2 : ¬ (200 + k.val < 200) := by omega
    simp only [e, e2, if_false]
    rfl

/-- What the first point leaves in the scratch and in its block. -/
theorem point0 (h : 0 < cfg0.N) (acc) : stAt0 m c 0 h acc
    = (blkV (iblk m c 0 ⟨0, h⟩) (iblk m c 1 ⟨0, h⟩) (spkV (iblk m c 2 ⟨0, h⟩) (iblk m c 3 ⟨0, h⟩) (iblk m c 4 ⟨0, h⟩))
        (iblk m c 5 ⟨0, h⟩) (iblk m c 6 ⟨0, h⟩) (wpG Γ.W), wpG Γ.W) := by
  rw [stAt0_A m c ⟨0, h⟩ acc rfl, outA_eq, scratch_eq Γ.W]
  exact fun l k j => (blk7 m c ⟨0, h⟩ l k j).trans (Γ.hW _ _ _)

theorem point1 (h : 1 < cfg0.N) (a) : (stAt0 m c 1 h (a, wpG Γ.W)).1
    = blkV (iblk m c 0 ⟨1, h⟩) (iblk m c 1 ⟨1, h⟩) (spkV (iblk m c 2 ⟨1, h⟩) (iblk m c 3 ⟨1, h⟩) (iblk m c 4 ⟨1, h⟩))
        (iblk m c 5 ⟨1, h⟩) (iblk m c 6 ⟨1, h⟩) (wpG Γ.W) := by
  rw [stAt0_B m c ⟨1, h⟩ _ (by simp), outB_eq]

/-- The kernel's result. -/
theorem result_apply (r : Fin 1280) (j : Fin 1200) :
    G8 m c (ix2 r j) = ((outR (Γ.x r) Γ.w0 Γ.b Γ.W j : ℝ) : EReal) := by
  have hN : cfg0.N = 2 := N_0
  have hr := r.isLt
  have hj := j.isLt
  have hloc : ∀ i : Fin 640, i.val = r.val % 640 → loc8Of (ix2 r j) = ix2 i j := by
    intro i hi
    funext a
    apply Fin.ext
    match a with
    | ⟨0, _⟩ => exact hi.symm
    | ⟨1, _⟩ => exact Nat.mod_eq_of_lt hj
  have hpt : pt8Of (ix2 r j) = r.val / 640 := by
    show 1 * (r.val / 640 - 0) + 1 * (j.val / 1200 - 0) = _
    rw [Nat.div_eq_of_lt hj]; omega
  unfold G8
  rw [dif_pos (by rw [hpt, hN]; omega)]
  rcases Nat.lt_or_ge r.val 640 with h | h
  · have e : pt8Of (ix2 r j) = 0 := by rw [hpt]; omega
    rw [fold0_congr m c _ _ 0 (by omega) e]
    have e2 : Pipeline.accAt (fun n h => stAt0 m c n h junk0) (stAt0 m c) 0 0 (by omega) = stAt0 m c 0 (by omega) junk0 := rfl
    rw [e2, point0 m c Γ, hloc ⟨r.val, h⟩ (Nat.mod_eq_of_lt h).symm]
    refine (blkV_real (holds m c Γ ⟨0, by omega⟩) ⟨r.val, h⟩ j).trans ?_
    show ((outR (Γ.x (rowOf ⟨0, _⟩ ⟨r.val, h⟩)) Γ.w0 Γ.b Γ.W j : ℝ) : EReal) = _
    rw [show rowOf ⟨0, by omega⟩ ⟨r.val, h⟩ = r from Fin.ext (by show 0 * 640 + r.val = r.val; omega)]
  · have e : pt8Of (ix2 r j) = 1 := by rw [hpt]; omega
    rw [fold0_congr m c _ _ 1 (by omega) e]
    have e2 : Pipeline.accAt (fun n h => stAt0 m c n h junk0) (stAt0 m c) 0 1 (by omega)
      = stAt0 m c 1 (by omega) (stAt0 m c 0 (by omega) junk0) := rfl
    rw [e2, point0 m c Γ, point1 m c Γ, hloc ⟨r.val - 640, by omega⟩ (by show r.val - 640 = r.val % 640; omega)]
    refine (blkV_real (holds m c Γ ⟨1, by omega⟩) ⟨r.val - 640, by omega⟩ j).trans ?_
    show ((outR (Γ.x (rowOf ⟨1, _⟩ ⟨r.val - 640, _⟩)) Γ.w0 Γ.b Γ.W j : ℝ) : EReal) = _
    rw [show rowOf ⟨1, by omega⟩ ⟨r.val - 640, by omega⟩ = r from Fin.ext (by show 1 * 640 + (r.val - 640) = r.val; omega)]

end Cert.Proof.Block

end
-- ==== Proof.RefPick.lean ====
/-
  The reference's speaker row: of each row's two flags the index of the larger (the first of two equal ones), the
  table's row of that index, and the third feature it is added to.
-/
module

public import proofs.«01_k».proof.Proof.Given
public import proofs.«01_k».proof.Proof.Gen.ReferenceIdeal.Read
public import Idealize.ShloMosaic.Lib.Routing.OpsSet
public import Idealize.ShloMosaic.Lib.ReduceAll

@[expose] public section

noncomputable section

namespace Cert.Proof.Ref

open Idealize.ShloMosaic Idealize.ShloMosaic.TcCoe Idealize.SL.Sem Idealize.ShloMosaic.StableHlo
open Idealize.ShloMosaic.ValueIdx Cert.ReferenceIdeal Cert.ReferenceIdeal.Gen Cert.ReferenceIdeal.Read
open scoped BigOperators

variable (x4 : (⟨S1x1280x2, .f32⟩ : BufTy).Contents (Elt Ideal))

theorem flags_apply (r : Fin 1280) (q : Fin 2) : val_main_v0 (F := Ideal) x4 (ix2 r q) = x4 (ix3 0 r q) := by
  rw [val_main_v0_apply]
  congr 1
  funext a
  apply Fin.ext
  match a with
  | ⟨0, _⟩ => rfl
  | ⟨1, _⟩ => show (r.val * 2 + q.val) / 2 % 1280 = r.val; omega
  | ⟨2, _⟩ => show (r.val * 2 + q.val) % 2 = q.val; omega

/-- A fold along rows of two entries. -/
theorem fold_two {α : Type} (f : α → α → α) [Std.Commutative f] [Std.Associative f] (x : (⟨2, ![1280, 2]⟩ : Shape).Idx → α)
    (z : S_.Idx → α) (h' : Shape.ReducesTo ⟨2, ![1280, 2]⟩ [1] ⟨1, ![1280]⟩) (hu : 0 < S_.numel) (r : Fin 1280) :
    Host.reduce f x z h' hu (ix1 r) = f (x (ix2 r 0)) (f (x (ix2 r 1)) (z (Shape.Idx.first hu))) := by
  have h : Shape.Reduces ⟨2, ![1280, 2]⟩ [1] ⟨1, ![1280]⟩ := by decide
  have e : ∀ q : Fin 2, h.lift (ix1 r) q = ix2 r q := fun q => by
    funext a
    apply Fin.ext
    match a with
    | ⟨0, _⟩ => rfl
    | ⟨1, _⟩ => rfl
  refine (Host.reduce_eq_fold_single f x z h' h hu _).trans ?_
  rw [← e, ← e]
  rfl

/-- The larger of a row's two flags. -/
theorem top_apply (r : Fin 1280) :
    val_main_v1 (F := Ideal) x4 (ix1 r) = max (x4 (ix3 0 r 0)) (x4 (ix3 0 r 1)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  unfold val_main_v1
  refine (fold_two _ _ _ _ h_S_ r).trans ?_
  rw [flags_apply, flags_apply]
  show max _ (max _ (Ideal.ofBits .f32 0xFF800000#32)) = _
  have b : Ideal.ofBits .f32 0xFF800000#32 = ⊥ := by simp [Ideal.ofBits, Ideal.ieee]
  rw [b, max_bot_right]

/-- Where a flag is the larger its own index, else two. -/
theorem cand_apply (r : Fin 1280) (q : Fin 2) :
    val_main_v6 (F := Ideal) x4 (ix2 r q)
      = if x4 (ix3 0 r q) = max (x4 (ix3 0 r 0)) (x4 (ix3 0 r 1)) then BitVec.ofNat 32 q.val else 2#32 := by
  rw [val_main_v6_apply, val_main_v4_apply, val_main_v3_apply, val_main_v2_apply, flags_apply]
  have e : val_main_v1 (F := Ideal) x4 (idx_main_v2 (idx_main_v3 (ix2 r q))) = max (x4 (ix3 0 r 0)) (x4 (ix3 0 r 1)) := by
    rw [← top_apply]
    congr 1
    funext a
    apply Fin.ext
    match a with
    | ⟨0, _⟩ => rfl
  have e1 : val_main_call0_v1 (F := Ideal) (ix2 r q) = BitVec.ofNat 32 q.val := by
    rw [val_main_call0_v1_apply]; rfl
  have e2 : val_main_call0_v2 (F := Ideal) (ix2 r q) = 2#32 := by
    rw [val_main_call0_v2_apply]; rfl
  rw [e, e1, e2]
  show Scalar.select (Ideal.cmp .oeq _ _) _ _ = _
  unfold Scalar.select Ideal.cmp
  by_cases h : x4 (ix3 0 r q) = max (x4 (ix3 0 r 0)) (x4 (ix3 0 r 1)) <;> simp [h]

/-- The index of the larger flag. -/
theorem best_apply (r : Fin 1280) :
    val_main_v7 (F := Ideal) x4 (ix1 r) = BitVec.ofNat 32 (pick (x4 (ix3 0 r 0)) (x4 (ix3 0 r 1))).val := by
  unfold val_main_v7
  refine (fold_two _ _ _ _ h_S_ r).trans ?_
  rw [cand_apply, cand_apply]
  show IntOp.minsi _ (IntOp.minsi _ 2147483647#32) = _
  unfold pick
  rcases lt_or_ge (x4 (ix3 0 r 0)) (x4 (ix3 0 r 1)) with hl | hl
  · rw [max_eq_right hl.le, if_neg hl.ne, if_pos rfl, if_pos hl]; decide
  · rw [max_eq_left hl, if_pos rfl, if_neg (not_lt.2 hl)]
    split <;> decide

theorem pick_lt (p q : EReal) : (pick p q).val < 2 := by unfold pick; split <;> decide

/-- The index is not negative: its wrap leaves it. -/
theorem wrapped_apply (r : Fin 1280) :
    val_main_call1_v4 (F := Ideal) x4 (ix1 r) = BitVec.ofNat 32 (pick (x4 (ix3 0 r 0)) (x4 (ix3 0 r 1))).val := by
  rw [val_main_call1_v4_apply, val_main_call1_v1_apply, best_apply, val_main_call1_v0_apply]
  refine (Routing.wrap_of_lt _ _ ?_).trans rfl
  have := pick_lt (x4 (ix3 0 r 0)) (x4 (ix3 0 r 1))
  rw [BitVec.toNat_ofNat]; omega

theorem column_apply (r : Fin 1280) :
    val_main_call1_v5 (F := Ideal) x4 (ix2 r 0) = BitVec.ofNat 32 (pick (x4 (ix3 0 r 0)) (x4 (ix3 0 r 1))).val := by
  rw [val_main_call1_v5_apply, ← wrapped_apply]
  congr 1
  funext a
  apply Fin.ext
  match a with
  | ⟨0, _⟩ => rfl

theorem inside_row (r : Fin 1280) : val_main_call1_v11 (F := Ideal) x4 (ix2 r 0) = 1#1 := by
  rw [val_main_call1_v11_apply, val_main_call1_v7_apply, val_main_call1_v10_apply, column_apply,
    val_main_call1_v6_apply, val_main_call1_v9_apply, val_main_call1_v8_apply]
  show IntOp.andi (IntOp.cmpi .sge _ 0#32) (IntOp.cmpi .sle _ 2#32) = 1#1
  unfold pick
  split <;> decide

/-- The index lies inside the table. -/
theorem inside (j : S1280.Idx) : val_main_call1_v12 (F := Ideal) x4 j = 1#1 := by
  unfold val_main_call1_v12
  refine Host.reduce_andi_one _ _ _ _ _ rfl fun i => ?_
  have hi : i = ix2 (n0 := 1280) (n1 := 1) (i 0) 0 := by
    funext a
    match a with
    | ⟨0, _⟩ => rfl
    | ⟨1, _⟩ => exact Subsingleton.elim (α := Fin 1) _ _
  exact (congrArg (val_main_call1_v11 (F := Ideal) x4) hi).trans (inside_row x4 (i 0))

/-- The third feature with the speaker's row added. -/
theorem spoken_apply (x2 : (⟨S1280x200, .f32⟩ : BufTy).Contents (Elt Ideal)) (x5 : (⟨S3x200, .f32⟩ : BufTy).Contents (Elt Ideal))
    (r : Fin 1280) (k : Fin 200) :
    val_main_v9 (F := Ideal) x2 x4 x5 (ix2 r k)
      = x2 (ix2 r k) + x5 (ix2 (pick (x4 (ix3 0 r 0)) (x4 (ix3 0 r 1))) k) := by
  rw [val_main_v9_apply, val_main_v8_apply, val_main_call1_v14_apply, inside, select_one]
  show x2 (ix2 r k) + _ = _
  congr 1
  unfold val_main_call1_v13
  exact Routing.gather_row _ rfl rfl rfl rfl rfl x5 _ r k _ (column_apply x4 r) (by decide)

end Cert.Proof.Ref

end
-- ==== Proof.RefSim.lean ====
/-
  The reference's three feature arrays, their lengths, and the nine similarities of each row.
-/
module

public import proofs.«01_k».proof.Proof.RefPick

@[expose] public section

noncomputable section

namespace Cert.Proof.Ref

open Idealize.ShloMosaic Idealize.ShloMosaic.TcCoe Idealize.SL.Sem Idealize.ShloMosaic.StableHlo
open Idealize.ShloMosaic.ValueIdx Cert.ReferenceIdeal Cert.ReferenceIdeal.Gen Cert.ReferenceIdeal.Read
open scoped BigOperators

variable {x0 x1 x2 : (⟨S1280x200, .f32⟩ : BufTy).Contents (Elt Ideal)} {x4 : (⟨S1x1280x2, .f32⟩ : BufTy).Contents (Elt Ideal)}
  {x5 : (⟨S3x200, .f32⟩ : BufTy).Contents (Elt Ideal)} {x6 : (⟨S200x200, .f32⟩ : BufTy).Contents (Elt Ideal)}
  {x7 : (⟨S200, .f32⟩ : BufTy).Contents (Elt Ideal)} {x8 : (⟨S4x400x200, .f32⟩ : BufTy).Contents (Elt Ideal)}
  (Γ : Given x0 x1 x2 x4 x5 x6 x7 x8)

/-- Three matrices stacked. -/
theorem stack_apply {α : Type} (y0 y1 y2 : S1x1280x200.Idx → α)
    (h : Shape.Concatenates [S1x1280x200, S1x1280x200, S1x1280x200] S3x1280x200 0) (m : Fin 3) (r : Fin 1280) (k : Fin 200) :
    concatenate S3x1280x200 0 [⟨S1x1280x200, y0⟩, ⟨S1x1280x200, y1⟩, ⟨S1x1280x200, y2⟩] h (ix3 m r k)
      = (![y0, y1, y2] m) (ix3 0 r k) := by
  have hi : ∀ b : Fin S1x1280x200.rank, b.cast (rfl : S1x1280x200.rank = S3x1280x200.rank) ≠ (0 : Fin 3) →
      (ix3 (n0 := 1) (0 : Fin 1) r k b).val = (ix3 (n0 := 3) m r k b).val := fun b hb => by
    match b with
    | ⟨0, _⟩ => exact absurd rfl hb
    | ⟨1, _⟩ => rfl
    | ⟨2, _⟩ => rfl
  match m with
  | ⟨0, _⟩ =>
    exact concatenate_apply_piece (t := S3x1280x200) (0 : Fin 3) [⟨S1x1280x200, y0⟩, ⟨S1x1280x200, y1⟩, ⟨S1x1280x200, y2⟩] h
      (ix3 (n0 := 3) 0 r k) 0 (by decide : 0 < 3) S1x1280x200 y0 rfl rfl 0 rfl
      (ix3 (n0 := 1) 0 r k) hi rfl
  | ⟨1, _⟩ =>
    exact concatenate_apply_piece (t := S3x1280x200) (0 : Fin 3) [⟨S1x1280x200, y0⟩, ⟨S1x1280x200, y1⟩, ⟨S1x1280x200, y2⟩] h
      (ix3 (n0 := 3) 1 r k) 1 (by decide : 1 < 3) S1x1280x200 y1 rfl rfl 1 rfl
      (ix3 (n0 := 1) 0 r k) hi rfl
  | ⟨2, _⟩ =>
    exact concatenate_apply_piece (t := S3x1280x200) (0 : Fin 3) [⟨S1x1280x200, y0⟩, ⟨S1x1280x200, y1⟩, ⟨S1x1280x200, y2⟩] h
      (ix3 (n0 := 3) 2 r k) 2 (by decide : 2 < 3) S1x1280x200 y2 rfl rfl 2 rfl
      (ix3 (n0 := 1) 0 r k) hi rfl

include Γ

/-- The three features, one above the other. -/
theorem feats_apply (m : Fin 3) (r : Fin 1280) (k : Fin 200) :
    val_main_v13 (F := Ideal) x0 x1 x2 x4 x5 (ix3 m r k) = ((Γ.x r m k : ℝ) : EReal) := by
  unfold val_main_v13
  refine (stack_apply _ _ _ _ m r k).trans ?_
  have two : ∀ i j : (⟨2, ![1280, 200]⟩ : Shape).Idx, i 0 = j 0 → i 1 = j 1 → i = j := fun i j e0 e1 => by
    funext a
    match a with
    | ⟨0, _⟩ => exact e0
    | ⟨1, _⟩ => exact e1
  match m with
  | ⟨0, _⟩ => exact (val_main_v10_apply _ _).trans ((congrArg x0 (two (idx_main_v10 (ix3 0 r k)) (ix2 r k) rfl rfl)).trans (Γ.h0 r k))
  | ⟨1, _⟩ => exact (val_main_v11_apply _ _).trans ((congrArg x1 (two (idx_main_v11 (ix3 0 r k)) (ix2 r k) rfl rfl)).trans (Γ.h1 r k))
  | ⟨2, _⟩ =>
    exact (val_main_v12_apply _ _ _ _).trans
      ((congrArg (val_main_v9 (F := Ideal) x2 x4 x5) (two (idx_main_v12 (ix3 0 r k)) (ix2 r k) rfl rfl)).trans ((spoken_apply x4 x2 x5 r k).trans (Γ.h2 r k)))

/-- The squared lengths. -/
theorem norms_apply (m : Fin 3) (r : Fin 1280) :
    val_main_v15 (F := Ideal) x0 x1 x2 x4 x5 (ix2 m r) = ((nrmR (Γ.x r) m : ℝ) : EReal) := by
  rw [val_main_v15_apply]
  have z : val_main_cst_1 (F := Ideal) (Shape.Idx.first h_S_) = 0 :=
    (ofBits_lit (b := 0x00000000#32) (by decide)).trans (by rw [lit_zero]; rfl)
  rw [z, zero_add]
  refine dot_c _ _ _ _ (fun k => ?_) fun k => ?_ <;>
  · rw [← feats_apply Γ]
    congr 1
    funext a
    match a with
    | ⟨0, _⟩ => rfl
    | ⟨1, _⟩ => rfl
    | ⟨2, _⟩ => rfl

/-- The features divided by their lengths. -/
theorem unit_apply (m : Fin 3) (r : Fin 1280) (k : Fin 200) :
    val_main_v19 (F := Ideal) x0 x1 x2 x4 x5 (ix3 m r k) = ((Γ.x r m k / √(nrmR (Γ.x r) m) : ℝ) : EReal) := by
  rw [val_main_v19_apply, feats_apply Γ, val_main_v18_apply, val_main_v17_apply, val_main_v16_apply]
  have e : val_main_v15 (F := Ideal) x0 x1 x2 x4 x5 (idx_main_v16 (idx_main_v18 (ix3 m r k))) = ((nrmR (Γ.x r) m : ℝ) : EReal) := by
    rw [← norms_apply Γ]
    congr 1
    funext a
    match a with
    | ⟨0, _⟩ => rfl
    | ⟨1, _⟩ => rfl
  rw [e]
  rw [Ideal.hostUnary_sqrt_def, Ideal.hostDivf_def, sqrt_c (Γ.pos r m).le, div_c _ (Real.sqrt_pos.2 (Γ.pos r m)).ne']

/-- The scaled cosines. -/
theorem cos_apply (m n : Fin 3) (r : Fin 1280) :
    val_main_v23 (F := Ideal) x0 x1 x2 x4 x5 (ix3 m n r) = ((cosR (Γ.x r) m n : ℝ) : EReal) := by
  rw [val_main_v23_apply, val_main_v21_apply, val_main_v20_apply, val_main_v22_apply]
  have e : ∑ k : Fin 200, val_main_v19 (F := Ideal) x0 x1 x2 x4 x5 (lidx_main_v20 (idx_main_v21 (ix3 m n r)) k)
        * val_main_v19 (F := Ideal) x0 x1 x2 x4 x5 (ridx_main_v20 (idx_main_v21 (ix3 m n r)) k)
      = ((∑ k, Γ.x r n k / √(nrmR (Γ.x r) n) * (Γ.x r m k / √(nrmR (Γ.x r) m)) : ℝ) : EReal) := by
    refine dot_c _ _ _ _ (fun k => ?_) fun k => ?_ <;>
    · rw [← unit_apply Γ]
      congr 1
      funext a
      match a with
      | ⟨0, _⟩ => rfl
      | ⟨1, _⟩ => rfl
      | ⟨2, _⟩ => rfl
  have q : val_main_cst_2 (F := Ideal) (idx_main_v22 (ix3 m n r)) = ((qR : ℝ) : EReal) :=
    ofBits_lit (b := 0x3F7FFF58#32) (by decide)
  rw [e, q]
  show ((_ : ℝ) : EReal) * _ = _
  rw [← EReal.coe_mul]
  congr 1
  unfold cosR
  congr 1
  rw [Finset.sum_div]
  exact Finset.sum_congr rfl fun k _ => by rw [div_mul_div_comm, mul_comm (Γ.x r n k), mul_comm (√(nrmR (Γ.x r) n))]

omit Γ

/-- The angular similarity as the reference computes it: the polynomial as a sum of powers. -/
def angP (c : EReal) : EReal :=
  let l := fun b : BitVec 32 => Ideal.ofBits .f32 b
  let t := max c (-c)
  let p := l 0x00000000#32 + l 0x3FC90FDA#32 * l 0x3F800000#32 + l 0xBE5BBFCA#32 * t + l 0x3DB63A9E#32 * (t * t)
    + l 0xBD4D8392#32 * (t * t * t) + l 0x3CFD10F8#32 * (t * t * (t * t)) + l 0xBC8BFC66#32 * (t * (t * t * (t * t)))
    + l 0x3BDA90C5#32 * (t * t * (t * t * (t * t))) + l 0xBAA57A2C#32 * (t * (t * t) * (t * t * (t * t)))
  let y := Ideal.sqrt (l 0x3F800000#32 - t) * p
  l 0x3F800000#32 - Ideal.div (Scalar.select (Ideal.cmp .olt c (l 0x00000000#32)) (l 0x40490FDB#32 - y) y) (l 0x40490FDB#32)

theorem angP_coe {c : ℝ} (h : |c| ≤ 1) : angP (c : EReal) = ((angR c : ℝ) : EReal) := by
  have h1 : (0 : ℝ) ≤ 1 - |c| := by linarith
  unfold angP
  simp (disch := decide) only [ofBits_lit, lit_one, lit_zero]
  simp only [abs_c, ← EReal.coe_mul, ← EReal.coe_add, ← EReal.coe_sub, sqrt_c h1, select_olt]
  rw [← apply_ite (fun r : ℝ => (r : EReal))]
  rw [show lit 0x40490FDB#32 = piR from rfl, div_c _ piR_ne, ← EReal.coe_sub]
  congr 1
  unfold angR acosR polyR
  congr 2
  by_cases hc : 0 ≤ c
  · rw [if_neg (not_lt.2 hc), if_pos hc]; ring
  · rw [if_pos (not_le.1 hc), if_neg hc]; ring

theorem ang_stage (i : S3x3x1280.Idx) :
    val_main_v78 (F := Ideal) x0 x1 x2 x4 x5 i = angP (val_main_v23 (F := Ideal) x0 x1 x2 x4 x5 i) := by
  simp only [val_main_v78_apply, val_main_v77_apply, val_main_v76_apply, val_main_v75_apply, val_main_v74_apply,
    val_main_v73_apply, val_main_v72_apply, val_main_v71_apply, val_main_v70_apply, val_main_v69_apply,
    val_main_v68_apply, val_main_v67_apply, val_main_v66_apply, val_main_v65_apply, val_main_v64_apply,
    val_main_v63_apply, val_main_v62_apply, val_main_v61_apply, val_main_v60_apply, val_main_v59_apply,
    val_main_v58_apply, val_main_v57_apply, val_main_v56_apply, val_main_v55_apply, val_main_v54_apply,
    val_main_v53_apply, val_main_v52_apply, val_main_v51_apply, val_main_v50_apply, val_main_v49_apply,
    val_main_v48_apply, val_main_v47_apply, val_main_v46_apply, val_main_v45_apply, val_main_v44_apply,
    val_main_v43_apply, val_main_v42_apply, val_main_v41_apply, val_main_v40_apply, val_main_v39_apply,
    val_main_v38_apply, val_main_v37_apply, val_main_v36_apply, val_main_v35_apply, val_main_v34_apply,
    val_main_v33_apply, val_main_v32_apply, val_main_v31_apply, val_main_v30_apply, val_main_v29_apply,
    val_main_v28_apply, val_main_v27_apply, val_main_v26_apply, val_main_v25_apply, val_main_v24_apply]
  generalize val_main_v23 (F := Ideal) x0 x1 x2 x4 x5 i = c
  rfl

include Γ in
/-- The similarities. -/
theorem sim_apply (m n : Fin 3) (r : Fin 1280) :
    val_main_v78 (F := Ideal) x0 x1 x2 x4 x5 (ix3 m n r) = ((simR (Γ.x r) m n : ℝ) : EReal) := by
  rw [ang_stage, cos_apply Γ, angP_coe (abs_cosR_le (Γ.pos r) m n)]
  rfl

end Cert.Proof.Ref

end
-- ==== Proof.RefAdj.lean ====
/-
  The reference's dense adjacency matrix: nine blocks written along their diagonals. Entry `(m, r), (n, s)` is the
  similarity of features `m` and `n` of row `r` when `r = s`, else zero. Then its row sums and its normalization.
-/
module

public import proofs.«01_k».proof.Proof.RefSim

@[expose] public section

noncomputable section

namespace Cert.Proof.Ref

open Idealize.ShloMosaic Idealize.ShloMosaic.TcCoe Idealize.SL.Sem Idealize.ShloMosaic.StableHlo
open Idealize.ShloMosaic.ValueIdx Cert.ReferenceIdeal Cert.ReferenceIdeal.Gen Cert.ReferenceIdeal.Read
open scoped BigOperators

/-- Node `m` of row `r` among the 3840 nodes. -/
def node (m : Fin 3) (r : Fin 1280) : Fin 3840 := ⟨m.val * 1280 + r.val, by omega⟩

theorem node_inj {m n : Fin 3} {r s : Fin 1280} (h : node m r = node n s) : m = n ∧ r = s := by
  have h' : m.val * 1280 + r.val = n.val * 1280 + s.val := congrArg Fin.val h
  exact ⟨Fin.ext (by omega), Fin.ext (by omega)⟩

/-! ### One block -/

/-- The positions of a block's rows (or columns), negative ones wrapped. -/
def places (a : BitVec 32) : IVec S1280 32 :=
  let y := addi (broadcastInDim S1280 ![] bcast_S_S1280 (constantI S_ 32 a)) (iotaInDim S1280 32 0)
  select (cmpi .slt y (broadcastInDim S1280 ![] bcast_S_S1280 (constantI S_ 32 0#32)))
    (addi y (broadcastInDim S1280 ![] bcast_S_S1280 (constantI S_ 32 3840#32))) y

/-- The pairs of positions of a block's diagonal. -/
def pairs (a b : BitVec 32) : IVec S1280x2 32 :=
  concatenate S1280x2 1 [⟨S1280x1, broadcastInDim S1280x1 ![0] bcast_S1280_S1280x1_0 (places a)⟩,
    ⟨S1280x1, broadcastInDim S1280x1 ![0] bcast_S1280_S1280x1_0 (places b)⟩] concatenates_S1280x1_S1280x1_S1280x2_d1

/-- Where block `a` starts. -/
abbrev word (a : Fin 3) : BitVec 32 := BitVec.ofNat 32 (a.val * 1280)

theorem places_apply (a : Fin 3) (k : Fin 1280) : (places (word a) (ix1 k)).toInt = ((node a k).val : Int) := by
  have hlt : a.val * 1280 + k.val < 3840 := (node a k).isLt
  have hn : (BitVec.ofNat 32 (a.val * 1280) + BitVec.ofNat 32 k.val).toNat = a.val * 1280 + k.val := by
    rw [← BitVec.ofNat_add, BitVec.toNat_ofNat, Nat.mod_eq_of_lt (lt_trans hlt (by decide))]
  have e : places (word a) (ix1 k) = BitVec.ofNat 32 (a.val * 1280) + BitVec.ofNat 32 k.val := by
    refine Routing.wrap_of_lt _ _ ?_
    exact lt_of_eq_of_lt hn (lt_trans hlt (by decide))
  rw [e, BitVec.toInt_eq_toNat_of_lt (by rw [hn]; exact lt_trans (Nat.mul_lt_mul_of_pos_left hlt (by decide)) (by decide)), hn]
  rfl

theorem column_of (y : IVec S1280 32) (k : Fin 1280) :
    broadcastInDim S1280x1 ![0] bcast_S1280_S1280x1_0 y (ix2 k 0) = y (ix1 k) :=
  broadcastInDim_apply _ _ y _ _ fun a => by
    match a with
    | ⟨0, _⟩ => rfl

/-- Two columns side by side. -/
theorem beside_apply (y z : IVec S1280x1 32) (h : Shape.Concatenates [S1280x1, S1280x1] S1280x2 1) (k : Fin 1280) (q : Fin 2) :
    concatenate S1280x2 1 [⟨S1280x1, y⟩, ⟨S1280x1, z⟩] h (ix2 k q) = (![y, z] q) (ix2 k 0) := by
  have hi : ∀ c : Fin S1280x1.rank, c.cast (rfl : S1280x1.rank = S1280x2.rank) ≠ (1 : Fin 2) →
      (ix2 (n1 := 1) k (0 : Fin 1) c).val = (ix2 (n1 := 2) k q c).val := fun c hc => by
    match c with
    | ⟨0, _⟩ => rfl
    | ⟨1, _⟩ => exact absurd rfl hc
  match q with
  | ⟨0, _⟩ =>
    exact concatenate_apply_piece (t := S1280x2) (1 : Fin 2) [⟨S1280x1, y⟩, ⟨S1280x1, z⟩] h (ix2 (n1 := 2) k 0) 0 (by decide : 0 < 2)
      S1280x1 y rfl rfl 0 rfl (ix2 (n1 := 1) k 0) hi rfl
  | ⟨1, _⟩ =>
    exact concatenate_apply_piece (t := S1280x2) (1 : Fin 2) [⟨S1280x1, y⟩, ⟨S1280x1, z⟩] h (ix2 (n1 := 2) k 1) 1 (by decide : 1 < 2)
      S1280x1 z rfl rfl 1 rfl (ix2 (n1 := 1) k 0) hi rfl

theorem pairs_left (a b : BitVec 32) (k : Fin 1280) : pairs a b (ix2 k 0) = places a (ix1 k) :=
  (beside_apply _ _ _ k 0).trans (column_of (places a) k)

theorem pairs_right (a b : BitVec 32) (k : Fin 1280) : pairs a b (ix2 k 1) = places b (ix1 k) :=
  (beside_apply _ _ _ k 1).trans (column_of (places b) k)

/-- Where update `k` of a scatter by pairs of positions lands. -/
theorem lands (idx : IVec S1280x2 32) (k : Fin 1280) (R C : Fin 3840) :
    scatter_S3840x3840_S1280x2_S1280_n_01_01_1.resultIdx? (ix1 k) idx = some (ix2 R C)
      ↔ (idx (ix2 k 0)).toInt = (R.val : Int) ∧ (idx (ix2 k 1)).toInt = (C.val : Int) := by
  have hs : ∀ q : Fin 2, scatter_S3840x3840_S1280x2_S1280_n_01_01_1.start (ix1 k) idx q = (idx (ix2 k q)).toInt := fun q => by
    match q with
    | ⟨0, _⟩ =>
      show (idx _).toInt = _
      congr 2
      funext a
      match a with
      | ⟨0, _⟩ => rfl
      | ⟨1, _⟩ => rfl
    | ⟨1, _⟩ =>
      show (idx _).toInt = _
      congr 2
      funext a
      match a with
      | ⟨0, _⟩ => rfl
      | ⟨1, _⟩ => rfl
  have hw : ∀ q : Fin 2, scatter_S3840x3840_S1280x2_S1280_n_01_01_1.window (ix1 k) q = 0 := fun q => by
    match q with
    | ⟨0, _⟩ => rfl
    | ⟨1, _⟩ => rfl
  rw [Routing.resultIdx?_ix2, hs, hs, hw, hw]
  simp

/-- A block's diagonal written into a matrix. -/
theorem put_apply (a b : Fin 3) (M : S3840x3840.Idx → EReal) (u : S1280.Idx → EReal) (m n : Fin 3) (r s : Fin 1280) :
    Host.scatter scatter_S3840x3840_S1280x2_S1280_n_01_01_1 (fun _ y => y) M (pairs (word a) (word b)) u (ix2 (node m r) (node n s))
      = if m = a ∧ n = b ∧ r = s then u (ix1 r) else M (ix2 (node m r) (node n s)) := by
  have key : ∀ k : Fin 1280, scatter_S3840x3840_S1280x2_S1280_n_01_01_1.resultIdx? (ix1 k) (pairs (word a) (word b))
      = some (ix2 (node m r) (node n s)) ↔ (m = a ∧ r = k) ∧ (n = b ∧ s = k) := fun k => by
    rw [lands, pairs_left, pairs_right, places_apply, places_apply]
    constructor
    · rintro ⟨h, h'⟩
      exact ⟨node_inj (Fin.ext (by exact_mod_cast h.symm)), node_inj (Fin.ext (by exact_mod_cast h'.symm))⟩
    · rintro ⟨⟨rfl, rfl⟩, ⟨rfl, h⟩⟩
      exact ⟨rfl, by rw [h]⟩
  have one : ∀ k : S1280.Idx, k = ix1 (k 0) := fun k => by
    funext c
    match c with
    | ⟨0, _⟩ => rfl
  split
  · next h =>
    obtain ⟨rfl, rfl, rfl⟩ := h
    refine Routing.scatter_set_hit _ _ _ _ _ _ (fun k hk => ?_) (ix1 r) ((key r).2 ⟨⟨rfl, rfl⟩, ⟨rfl, rfl⟩⟩)
    rw [one k] at hk ⊢
    exact congrArg (fun q => u (ix1 q)) ((key (k 0)).1 hk).1.2.symm
  · next h =>
    refine Routing.scatter_set_miss _ _ _ _ _ fun k hk => h ?_
    rw [one k] at hk
    obtain ⟨⟨h1, h2⟩, h3, h4⟩ := (key (k 0)).1 hk
    exact ⟨h1, h3, h2.trans h4.symm⟩

/-- One diagonal of the nine similarities. -/
theorem diagonal_apply (a b : Fin 3) (v : S3x3x1280.Idx → EReal) (hs : Shape.Slices S3x3x1280 ![a.val, b.val, 0] S1x1x1280)
    (hc : Shape.ShapeCasts S1x1x1280 S1280) (r : Fin 1280) :
    shapeCast S1280 (extractStridedSlice S1x1x1280 ![a.val, b.val, 0] v hs) hc (ix1 r) = v (ix3 a b r) := by
  refine (shapeCast_apply _ hc (ix1 r) (ix3 0 0 r) ?_).trans ?_
  · rw [Shape.rowMajor_val_one, Shape.rowMajor_val_three]
    show (0 * 1 + 0) * 1280 + r.val = r.val
    omega
  · refine extractStridedSlice_apply _ _ _ _ _ fun c => ?_
    match c with
    | ⟨0, _⟩ => rfl
    | ⟨1, _⟩ => rfl
    | ⟨2, _⟩ => exact (Nat.zero_add _).symm

end Cert.Proof.Ref

end
-- ==== Proof.RefNorm.lean ====
/-
  The reference's adjacency matrix whole, its row sums, and the matrix divided by the square roots of the row sums on
  both sides: each is `degR` or `adjR` of the row it concerns.
-/
module

public import proofs.«01_k».proof.Proof.RefAdj

@[expose] public section

noncomputable section

namespace Cert.Proof.Ref

open Idealize.ShloMosaic Idealize.ShloMosaic.TcCoe Idealize.SL.Sem Idealize.ShloMosaic.StableHlo
open Idealize.ShloMosaic.ValueIdx Cert.ReferenceIdeal Cert.ReferenceIdeal.Gen Cert.ReferenceIdeal.Read
open scoped BigOperators

/-- A sum over the nodes is a sum over rows and features. -/
theorem sum_nodes (f : Fin 3840 → EReal) : ∑ C, f C = ∑ n : Fin 3, ∑ s : Fin 1280, f (node n s) := by
  rw [← Fintype.sum_prod_type' (fun n s => f (node n s))]
  refine (Fintype.sum_bijective (fun p : Fin 3 × Fin 1280 => node p.1 p.2) ⟨?_, ?_⟩ _ _ fun _ => rfl).symm
  · rintro ⟨m, r⟩ ⟨n, s⟩ h
    obtain ⟨h1, h2⟩ := node_inj h
    exact Prod.ext h1 h2
  · intro C
    refine ⟨(⟨C.val / 1280, by omega⟩, ⟨C.val % 1280, by omega⟩), Fin.ext ?_⟩
    show C.val / 1280 * 1280 + C.val % 1280 = C.val
    omega

/-- A sum over the nodes of terms that vanish off row `r`. -/
theorem sum_row (f : Fin 3840 → EReal) (r : Fin 1280) (g : Fin 3 → ℝ)
    (h : ∀ n s, f (node n s) = if r = s then ((g n : ℝ) : EReal) else 0) : ∑ C, f C = ((g 0 + g 1 + g 2 : ℝ) : EReal) := by
  rw [sum_nodes, Fin.sum_univ_three]
  simp only [h, Finset.sum_ite_eq, Finset.mem_univ, if_true]
  rw [EReal.coe_add, EReal.coe_add]

theorem pair_ext {a b : ℕ} {i j : (⟨2, ![a, b]⟩ : Shape).Idx} (h0 : i 0 = j 0) (h1 : i 1 = j 1) : i = j := by
  funext c
  match c with
  | ⟨0, _⟩ => exact h0
  | ⟨1, _⟩ => exact h1

theorem single_ext {a : ℕ} {i j : (⟨1, ![a]⟩ : Shape).Idx} (h0 : i 0 = j 0) : i = j := by
  funext c
  match c with
  | ⟨0, _⟩ => exact h0

variable {x0 x1 x2 : (⟨S1280x200, .f32⟩ : BufTy).Contents (Elt Ideal)} {x4 : (⟨S1x1280x2, .f32⟩ : BufTy).Contents (Elt Ideal)}
  {x5 : (⟨S3x200, .f32⟩ : BufTy).Contents (Elt Ideal)} {x6 : (⟨S200x200, .f32⟩ : BufTy).Contents (Elt Ideal)}
  {x7 : (⟨S200, .f32⟩ : BufTy).Contents (Elt Ideal)} {x8 : (⟨S4x400x200, .f32⟩ : BufTy).Contents (Elt Ideal)}
  (Γ : Given x0 x1 x2 x4 x5 x6 x7 x8)

include Γ

/-- One of the nine writes. -/
theorem write_apply (a b : Fin 3) (M : S3840x3840.Idx → EReal) (hs : Shape.Slices S3x3x1280 ![a.val, b.val, 0] S1x1x1280)
    (hc : Shape.ShapeCasts S1x1x1280 S1280) (m n : Fin 3) (r s : Fin 1280) :
    Host.scatter scatter_S3840x3840_S1280x2_S1280_n_01_01_1 (fun _ y => y) M (pairs (word a) (word b))
        (shapeCast S1280 (extractStridedSlice S1x1x1280 ![a.val, b.val, 0] (val_main_v78 (F := Ideal) x0 x1 x2 x4 x5) hs) hc)
        (ix2 (node m r) (node n s))
      = if m = a ∧ n = b ∧ r = s then ((simR (Γ.x r) m n : ℝ) : EReal) else M (ix2 (node m r) (node n s)) := by
  rw [put_apply, diagonal_apply, sim_apply Γ]
  split
  · next h => rw [h.1, h.2.1]
  · rfl

/-- The adjacency matrix. -/
theorem matrix_apply (m n : Fin 3) (r s : Fin 1280) :
    val_main_v260 (F := Ideal) x0 x1 x2 x4 x5 (ix2 (node m r) (node n s))
      = if r = s then ((simR (Γ.x r) m n : ℝ) : EReal) else 0 := by
  refine (write_apply Γ 2 2 (val_main_v240 (F := Ideal) x0 x1 x2 x4 x5) _ _ m n r s).trans ?_
  rw [show val_main_v240 (F := Ideal) x0 x1 x2 x4 x5 (ix2 (node m r) (node n s)) = _ from
    write_apply Γ 2 1 (val_main_v220 (F := Ideal) x0 x1 x2 x4 x5) _ _ m n r s]
  rw [show val_main_v220 (F := Ideal) x0 x1 x2 x4 x5 (ix2 (node m r) (node n s)) = _ from
    write_apply Γ 2 0 (val_main_v200 (F := Ideal) x0 x1 x2 x4 x5) _ _ m n r s]
  rw [show val_main_v200 (F := Ideal) x0 x1 x2 x4 x5 (ix2 (node m r) (node n s)) = _ from
    write_apply Γ 1 2 (val_main_v180 (F := Ideal) x0 x1 x2 x4 x5) _ _ m n r s]
  rw [show val_main_v180 (F := Ideal) x0 x1 x2 x4 x5 (ix2 (node m r) (node n s)) = _ from
    write_apply Γ 1 1 (val_main_v160 (F := Ideal) x0 x1 x2 x4 x5) _ _ m n r s]
  rw [show val_main_v160 (F := Ideal) x0 x1 x2 x4 x5 (ix2 (node m r) (node n s)) = _ from
    write_apply Γ 1 0 (val_main_v140 (F := Ideal) x0 x1 x2 x4 x5) _ _ m n r s]
  rw [show val_main_v140 (F := Ideal) x0 x1 x2 x4 x5 (ix2 (node m r) (node n s)) = _ from
    write_apply Γ 0 2 (val_main_v120 (F := Ideal) x0 x1 x2 x4 x5) _ _ m n r s]
  rw [show val_main_v120 (F := Ideal) x0 x1 x2 x4 x5 (ix2 (node m r) (node n s)) = _ from
    write_apply Γ 0 1 (val_main_v100 (F := Ideal) x0 x1 x2 x4 x5) _ _ m n r s]
  rw [show val_main_v100 (F := Ideal) x0 x1 x2 x4 x5 (ix2 (node m r) (node n s)) = _ from
    write_apply Γ 0 0 (val_main_v79 (F := Ideal)) _ _ m n r s]
  have z : val_main_v79 (F := Ideal) (ix2 (node m r) (node n s)) = 0 :=
    (ofBits_lit (b := 0x00000000#32) (by decide)).trans (by rw [lit_zero]; rfl)
  rw [z]
  by_cases h : r = s
  · fin_cases m <;> fin_cases n <;> simp [h]
  · simp [h]

/-- The row sums. -/
theorem degree_apply (m : Fin 3) (r : Fin 1280) :
    val_main_v261 (F := Ideal) x0 x1 x2 x4 x5 (ix1 (node m r)) = ((degR (Γ.x r) m : ℝ) : EReal) := by
  rw [val_main_v261_apply]
  have z : val_main_cst_73 (F := Ideal) (Shape.Idx.first h_S_) = 0 :=
    (ofBits_lit (b := 0x00000000#32) (by decide)).trans (by rw [lit_zero]; rfl)
  rw [z, zero_add]
  refine sum_row _ r (simR (Γ.x r) m) fun n s => ?_
  rw [← matrix_apply Γ]
  exact congrArg (val_main_v260 (F := Ideal) x0 x1 x2 x4 x5) (pair_ext rfl rfl)

theorem scale_apply (m : Fin 3) (r : Fin 1280) :
    val_main_v263 (F := Ideal) x0 x1 x2 x4 x5 (ix1 (node m r)) = (((√(degR (Γ.x r) m))⁻¹ : ℝ) : EReal) := by
  rw [val_main_v263_apply, degree_apply Γ, ← pow_c (degR_pos (Γ.pos r) m)]
  have e : val_main_v262 (F := Ideal) (ix1 (node m r)) = ((lit 0xBF000000#32 : ℝ) : EReal) :=
    ofBits_lit (b := 0xBF000000#32) (by decide)
  rw [e]
  rfl

/-- The normalized matrix. -/
theorem norm_apply (m n : Fin 3) (r s : Fin 1280) :
    val_main_v269 (F := Ideal) x0 x1 x2 x4 x5 (ix2 (node m r) (node n s))
      = if r = s then ((adjR (Γ.x r) m n : ℝ) : EReal) else 0 := by
  rw [val_main_v269_apply, val_main_v266_apply, matrix_apply Γ, val_main_v265_apply, val_main_v264_apply, val_main_v268_apply,
    val_main_v267_apply]
  have e1 : val_main_v263 (F := Ideal) x0 x1 x2 x4 x5 (idx_main_v264 (idx_main_v265 (ix2 (node m r) (node n s))))
      = (((√(degR (Γ.x r) m))⁻¹ : ℝ) : EReal) :=
    (congrArg (val_main_v263 (F := Ideal) x0 x1 x2 x4 x5) (single_ext (i := idx_main_v264 (idx_main_v265 (ix2 (node m r) (node n s)))) (j := ix1 (node m r)) rfl)).trans (scale_apply Γ m r)
  have e2 : val_main_v263 (F := Ideal) x0 x1 x2 x4 x5 (idx_main_v267 (idx_main_v268 (ix2 (node m r) (node n s))))
      = (((√(degR (Γ.x s) n))⁻¹ : ℝ) : EReal) :=
    (congrArg (val_main_v263 (F := Ideal) x0 x1 x2 x4 x5) (single_ext (i := idx_main_v267 (idx_main_v268 (ix2 (node m r) (node n s)))) (j := ix1 (node n s)) rfl)).trans (scale_apply Γ n s)
  rw [e1, e2]
  show (if r = s then ((simR (Γ.x r) m n : ℝ) : EReal) else 0) * _ * _ = _
  by_cases h : r = s
  · subst h
    rw [if_pos rfl, if_pos rfl, ← EReal.coe_mul, ← EReal.coe_mul]
    rfl
  · rw [if_neg h, if_neg h, zero_mul, zero_mul]

end Cert.Proof.Ref

end
-- ==== Proof.RefLayers.lean ====
/-
  The reference's layers on the 3840 nodes. Off a row's own three nodes the matrix is zero, so each layer is `layR` of
  the row, and the result array holds `outR` of each row.
-/
module

public import proofs.«01_k».proof.Proof.RefNorm
public import Idealize.ShloMosaic.Lib.StackMember

@[expose] public section

noncomputable section

namespace Cert.Proof.Ref

open Idealize.ShloMosaic Idealize.ShloMosaic.TcCoe Idealize.SL.Sem Idealize.ShloMosaic.StableHlo
open Idealize.ShloMosaic.ValueIdx Cert.ReferenceIdeal Cert.ReferenceIdeal.Gen Cert.ReferenceIdeal.Read
open scoped BigOperators

/-- Two matrices of 200 columns side by side. -/
theorem join_apply (y z : S3840x200.Idx → EReal) (h : Shape.Concatenates [S3840x200, S3840x200] S3840x400 1) (R : Fin 3840) (k : Fin 400) :
    concatenate S3840x400 1 [⟨S3840x200, y⟩, ⟨S3840x200, z⟩] h (ix2 R k)
      = if hk : k.val < 200 then y (ix2 R ⟨k.val, hk⟩) else z (ix2 R ⟨k.val - 200, by have := k.isLt; omega⟩) := by
  have hi : ∀ (q : Fin 200) (c : Fin S3840x200.rank), c.cast (rfl : S3840x200.rank = S3840x400.rank) ≠ (1 : Fin 2) →
      (ix2 (n1 := 200) R q c).val = (ix2 (n1 := 400) R k c).val := fun q c hc => by
    match c with
    | ⟨0, _⟩ => rfl
    | ⟨1, _⟩ => exact absurd rfl hc
  split
  · next hk =>
    exact concatenate_apply_piece (t := S3840x400) (1 : Fin 2) [⟨S3840x200, y⟩, ⟨S3840x200, z⟩] h (ix2 (n1 := 400) R k) 0 (by decide : 0 < 2)
      S3840x200 y rfl rfl 0 rfl (ix2 (n1 := 200) R ⟨k.val, hk⟩) (hi _) (Nat.zero_add _)
  · next hk =>
    exact concatenate_apply_piece (t := S3840x400) (1 : Fin 2) [⟨S3840x200, y⟩, ⟨S3840x200, z⟩] h (ix2 (n1 := 400) R k) 1 (by decide : 1 < 2)
      S3840x200 z rfl rfl 200 rfl (ix2 (n1 := 200) R ⟨k.val - 200, by have := k.isLt; omega⟩) (hi _)
      (by show 200 + (k.val - 200) = k.val; omega)

/-- One layer as the reference computes it. -/
def layerE (θ δ ρ : BitVec 32) (A : FVec Ideal S3840x3840 .f32) (w : FVec Ideal S400x200 .f32) (h0 h : FVec Ideal S3840x200 .f32) :
    FVec Ideal S3840x200 .f32 :=
  let hi := Host.dotGeneral dot_S3840x3840_S3840x200_S3840x200_1_0_0_1_n_n none A h
  let c := fun b : BitVec 32 => broadcastInDim S3840x200 ![] bcast_S_S3840x200 (constant (F := Ideal) S_ .f32 b)
  maximumf (addf (mulf (c θ) (Host.dotGeneral dot_S3840x400_S400x200_S3840x200_1_0_0_1_n_n none
      (concatenate S3840x400 1 [⟨S3840x200, hi⟩, ⟨S3840x200, h0⟩] concatenates_S3840x200_S3840x200_S3840x400_d1) w))
    (addf (mulf (c δ) hi) (mulf (c ρ) h0))) (c 0x00000000#32)

/-- Layer `l`'s weights. -/
theorem weight_apply (l : Fin 4) (x8 : S4x400x200.Idx → EReal) (hs : Shape.Slices S4x400x200 ![l.val, 0, 0] S1x400x200)
    (hc : Shape.ShapeCasts S1x400x200 S400x200) (k : Fin 400) (j : Fin 200) :
    shapeCast S400x200 (extractStridedSlice S1x400x200 ![l.val, 0, 0] x8 hs) hc (ix2 k j) = x8 (ix3 l k j) := by
  refine (shapeCast_apply _ hc (ix2 k j) (ix3 0 k j) ?_).trans ?_
  · rw [Shape.rowMajor_val_two, Shape.rowMajor_val_three]
    show (0 * 400 + k.val) * 200 + j.val = k.val * 200 + j.val
    omega
  · refine extractStridedSlice_apply _ _ _ _ _ fun c => ?_
    match c with
    | ⟨0, _⟩ => rfl
    | ⟨1, _⟩ => exact (Nat.zero_add _).symm
    | ⟨2, _⟩ => exact (Nat.zero_add _).symm

/-- A layer on nodes whose matrix is zero off a row's own three nodes. -/
theorem layer_apply {θ δ ρ : BitVec 32} (hθ : (θ.extractLsb' 23 8).toNat ≠ 255) (hδ : (δ.extractLsb' 23 8).toNat ≠ 255)
    (hρ : (ρ.extractLsb' 23 8).toNat ≠ 255) {A : FVec Ideal S3840x3840 .f32} {w : FVec Ideal S400x200 .f32}
    {h0 h : FVec Ideal S3840x200 .f32} {x : Fin 1280 → Fin 3 → Fin 200 → ℝ} {W : Fin 400 → Fin 200 → ℝ}
    {H0 H : Fin 1280 → Fin 3 → Fin 200 → ℝ}
    (hA : ∀ m n r s, A (ix2 (node m r) (node n s)) = if r = s then ((adjR (x r) m n : ℝ) : EReal) else 0)
    (hw : ∀ k j, w (ix2 k j) = ((W k j : ℝ) : EReal)) (hh0 : ∀ m r j, h0 (ix2 (node m r) j) = ((H0 r m j : ℝ) : EReal))
    (hh : ∀ m r j, h (ix2 (node m r) j) = ((H r m j : ℝ) : EReal)) (m : Fin 3) (r : Fin 1280) (j : Fin 200) :
    layerE θ δ ρ A w h0 h (ix2 (node m r) j)
      = ((layR (x r) (lit θ) (lit δ) (lit ρ) W (H0 r) (H r) m j : ℝ) : EReal) := by
  have mix : ∀ q : Fin 200, Host.dotGeneral dot_S3840x3840_S3840x200_S3840x200_1_0_0_1_n_n none A h (ix2 (node m r) q)
      = ((mixR (x r) (H r) m q : ℝ) : EReal) := fun q => by
    refine (StackMember.dotGeneral_plain_apply none A h (node m r) q).trans ?_
    refine sum_row _ r (fun n => adjR (x r) m n * H r n q) fun n s => ?_
    rw [hA, hh]
    by_cases e : r = s
    · subst e
      rw [if_pos rfl, if_pos rfl, ← EReal.coe_mul]
    · rw [if_neg e, if_neg e, zero_mul]
  have prod : Host.dotGeneral dot_S3840x400_S400x200_S3840x200_1_0_0_1_n_n none
      (concatenate S3840x400 1 [⟨S3840x200, Host.dotGeneral dot_S3840x3840_S3840x200_S3840x200_1_0_0_1_n_n none A h⟩, ⟨S3840x200, h0⟩]
        concatenates_S3840x200_S3840x200_S3840x400_d1) w (ix2 (node m r) j)
      = ((∑ k, supR (x r) (H0 r) (H r) m k * W k j : ℝ) : EReal) := by
    refine (StackMember.dotGeneral_plain_apply none _ w (node m r) j).trans ?_
    refine dot_c _ _ _ _ (fun k => ?_) fun k => hw k j
    rw [join_apply]
    unfold supR
    split
    · exact mix _
    · exact hh0 _ _ _
  show max (Ideal.ofBits .f32 θ * Host.dotGeneral dot_S3840x400_S400x200_S3840x200_1_0_0_1_n_n none _ w (ix2 (node m r) j)
    + (Ideal.ofBits .f32 δ * Host.dotGeneral dot_S3840x3840_S3840x200_S3840x200_1_0_0_1_n_n none A h (ix2 (node m r) j)
      + Ideal.ofBits .f32 ρ * h0 (ix2 (node m r) j))) (Ideal.ofBits .f32 0x00000000#32) = _
  rw [prod, mix, hh0, ofBits_lit hθ, ofBits_lit hδ, ofBits_lit hρ, ofBits_lit (b := 0x00000000#32) (by decide), lit_zero]
  simp only [← EReal.coe_mul, ← EReal.coe_add, max_c]
  rfl

/-- Three matrices of 1280 rows one below the other: a row of the piece numbered `m`. -/
theorem pile_apply (y0 y1 y2 : S1280x200.Idx → EReal)
    (h : Shape.Concatenates [S1280x200, S1280x200, S1280x200] S3840x200 0) (m : Fin 3) (r : Fin 1280)
    (k : Fin 200) :
    concatenate S3840x200 0 [⟨S1280x200, y0⟩, ⟨S1280x200, y1⟩, ⟨S1280x200, y2⟩] h (ix2 (node m r) k) =
      (![y0, y1, y2] m) (ix2 r k) := by
  have hi : ∀ (R : Fin 3840) (c : Fin S1280x200.rank),
      c.cast (rfl : S1280x200.rank = S3840x200.rank) ≠ (0 : Fin 2) →
      (ix2 (n0 := 1280) r k c).val = (ix2 (n0 := 3840) R k c).val := by
    intro R c hc
    match c with
    | ⟨0, _⟩ => exact absurd rfl hc
    | ⟨1, _⟩ => rfl
  have p0 : ∀ R : Fin 3840, R.val = 0 + r.val →
      concatenate S3840x200 0 [⟨S1280x200, y0⟩, ⟨S1280x200, y1⟩, ⟨S1280x200, y2⟩] h (ix2 R k) = y0 (ix2 r k) :=
    fun R hR => concatenate_apply_piece (t := S3840x200) (0 : Fin 2)
      [⟨S1280x200, y0⟩, ⟨S1280x200, y1⟩, ⟨S1280x200, y2⟩] h (ix2 R k) 0 (by decide : 0 < 3) S1280x200 y0 rfl rfl
      0 rfl (ix2 r k) (hi R) hR.symm
  have p1 : ∀ R : Fin 3840, R.val = 1280 + r.val →
      concatenate S3840x200 0 [⟨S1280x200, y0⟩, ⟨S1280x200, y1⟩, ⟨S1280x200, y2⟩] h (ix2 R k) = y1 (ix2 r k) :=
    fun R hR => concatenate_apply_piece (t := S3840x200) (0 : Fin 2)
      [⟨S1280x200, y0⟩, ⟨S1280x200, y1⟩, ⟨S1280x200, y2⟩] h (ix2 R k) 1 (by decide : 1 < 3) S1280x200 y1 rfl rfl
      1280 rfl (ix2 r k) (hi R) hR.symm
  have p2 : ∀ R : Fin 3840, R.val = 2560 + r.val →
      concatenate S3840x200 0 [⟨S1280x200, y0⟩, ⟨S1280x200, y1⟩, ⟨S1280x200, y2⟩] h (ix2 R k) = y2 (ix2 r k) :=
    fun R hR => concatenate_apply_piece (t := S3840x200) (0 : Fin 2)
      [⟨S1280x200, y0⟩, ⟨S1280x200, y1⟩, ⟨S1280x200, y2⟩] h (ix2 R k) 2 (by decide : 2 < 3) S1280x200 y2 rfl rfl
      2560 rfl (ix2 r k) (hi R) hR.symm
  have hv : (node m r).val = m.val * 1280 + r.val := rfl
  clear hi
  generalize node m r = R at hv ⊢
  fin_cases m
  · exact p0 R hv
  · exact p1 R (hv.trans (by norm_num))
  · exact p2 R (hv.trans (by norm_num))

/-- Three matrices of 400 columns side by side. -/
theorem spread_apply (y0 y1 y2 : S1280x400.Idx → EReal)
    (h : Shape.Concatenates [S1280x400, S1280x400, S1280x400] S1280x1200 1) (m : Fin 3) (r : Fin 1280) (k : Fin 400) :
    concatenate S1280x1200 1 [⟨S1280x400, y0⟩, ⟨S1280x400, y1⟩, ⟨S1280x400, y2⟩] h (ix2 r ⟨m.val * 400 + k.val, by omega⟩)
      = (![y0, y1, y2] m) (ix2 r k) := by
  have hi : ∀ (p : Fin 1200) (c : Fin S1280x400.rank), c.cast (rfl : S1280x400.rank = S1280x1200.rank) ≠ (1 : Fin 2) →
      (ix2 (n1 := 400) r k c).val = (ix2 (n1 := 1200) r p c).val := fun p c hc => by
    match c with
    | ⟨0, _⟩ => rfl
    | ⟨1, _⟩ => exact absurd rfl hc
  match m with
  | ⟨0, _⟩ =>
    exact concatenate_apply_piece (t := S1280x1200) (1 : Fin 2) [⟨S1280x400, y0⟩, ⟨S1280x400, y1⟩, ⟨S1280x400, y2⟩] h
      (ix2 r ⟨0 * 400 + k.val, by omega⟩) 0 (by decide : 0 < 3) S1280x400 y0 rfl rfl 0 rfl (ix2 r k) (hi _)
      (by show 0 + k.val = 0 * 400 + k.val; omega)
  | ⟨1, _⟩ =>
    exact concatenate_apply_piece (t := S1280x1200) (1 : Fin 2) [⟨S1280x400, y0⟩, ⟨S1280x400, y1⟩, ⟨S1280x400, y2⟩] h
      (ix2 r ⟨1 * 400 + k.val, by omega⟩) 1 (by decide : 1 < 3) S1280x400 y1 rfl rfl 400 (show 400 + 0 = 400 by norm_num) (ix2 r k) (hi _)
      (by show 400 + k.val = 1 * 400 + k.val; omega)
  | ⟨2, _⟩ =>
    exact concatenate_apply_piece (t := S1280x1200) (1 : Fin 2) [⟨S1280x400, y0⟩, ⟨S1280x400, y1⟩, ⟨S1280x400, y2⟩] h
      (ix2 r ⟨2 * 400 + k.val, by omega⟩) 2 (by decide : 2 < 3) S1280x400 y2 rfl rfl 800 (show 400 + (400 + 0) = 800 by norm_num) (ix2 r k) (hi _)
      (by show 800 + k.val = 2 * 400 + k.val; omega)

end Cert.Proof.Ref

end
-- ==== Proof.RefResult.lean ====
/-
  The reference's result array: each row is `outR` of the row's three features.
-/
module

public import proofs.«01_k».proof.Proof.RefLayers

@[expose] public section

noncomputable section

namespace Cert.Proof.Ref

open Idealize.ShloMosaic Idealize.ShloMosaic.TcCoe Idealize.SL.Sem Idealize.ShloMosaic.StableHlo
open Idealize.ShloMosaic.ValueIdx Cert.ReferenceIdeal Cert.ReferenceIdeal.Gen Cert.ReferenceIdeal.Read
open scoped BigOperators

variable {x0 x1 x2 : (⟨S1280x200, .f32⟩ : BufTy).Contents (Elt Ideal)} {x4 : (⟨S1x1280x2, .f32⟩ : BufTy).Contents (Elt Ideal)}
  {x5 : (⟨S3x200, .f32⟩ : BufTy).Contents (Elt Ideal)} {x6 : (⟨S200x200, .f32⟩ : BufTy).Contents (Elt Ideal)}
  {x7 : (⟨S200, .f32⟩ : BufTy).Contents (Elt Ideal)} {x8 : (⟨S4x400x200, .f32⟩ : BufTy).Contents (Elt Ideal)}
  (Γ : Given x0 x1 x2 x4 x5 x6 x7 x8)

/-- The nodes' features. -/
theorem nodes_apply (m : Fin 3) (r : Fin 1280) (k : Fin 200) :
    val_main_v270 (F := Ideal) x0 x1 x2 x4 x5 (ix2 (node m r) k) = ((Γ.x r m k : ℝ) : EReal) := by
  unfold val_main_v270
  refine (pile_apply _ _ _ _ m r k).trans ?_
  fin_cases m
  · exact Γ.h0 r k
  · exact Γ.h1 r k
  · exact (spoken_apply x4 x2 x5 r k).trans (Γ.h2 r k)

/-- The dense input layer. -/
theorem input_apply (m : Fin 3) (r : Fin 1280) (j : Fin 200) :
    val_main_v276 (F := Ideal) x0 x1 x2 x4 x5 x6 x7 (ix2 (node m r) j) = ((h0R (Γ.x r) Γ.w0 Γ.b m j : ℝ) : EReal) := by
  have e1 : val_main_v271 (F := Ideal) x0 x1 x2 x4 x5 x6 (ix2 (node m r) j) = ((∑ k, Γ.x r m k * Γ.w0 k j : ℝ) : EReal) := by
    unfold val_main_v271
    refine (StackMember.dotGeneral_plain_apply none _ x6 (node m r) j).trans ?_
    exact dot_c _ _ _ _ (fun k => nodes_apply Γ m r k) fun k => Γ.hw0 k j
  have e2 : val_main_v273 (F := Ideal) x7 (ix2 (node m r) j) = ((Γ.b j : ℝ) : EReal) := by
    rw [val_main_v273_apply, val_main_v272_apply]
    exact (congrArg x7 (single_ext (i := idx_main_v272 (idx_main_v273 (ix2 (node m r) j))) (j := ix1 j) rfl)).trans (Γ.hb j)
  have e3 : val_main_v275 (F := Ideal) (ix2 (node m r) j) = ((0 : ℝ) : EReal) := by
    rw [val_main_v275_apply]
    exact (ofBits_lit (b := 0x00000000#32) (by decide)).trans (by rw [lit_zero])
  rw [val_main_v276_apply, val_main_v274_apply, e1, e2, e3]
  exact (congrArg (fun z => max z ((0 : ℝ) : EReal)) (EReal.coe_add _ _).symm).trans (max_c _ _)

/-- After layer 0. -/
theorem net1_apply (m : Fin 3) (r : Fin 1280) (j : Fin 200) :
    val_main_v291 (F := Ideal) x0 x1 x2 x4 x5 x6 x7 x8 (ix2 (node m r) j) = ((net1 (Γ.x r) Γ.w0 Γ.b Γ.W m j : ℝ) : EReal) := by
  have e : val_main_v291 (F := Ideal) x0 x1 x2 x4 x5 x6 x7 x8
    = layerE 0x3ECF991F#32 0x3F08FB18#32 0x3D738580#32 (val_main_v269 (F := Ideal) x0 x1 x2 x4 x5) (val_main_v285 (F := Ideal) x8)
      (val_main_v276 (F := Ideal) x0 x1 x2 x4 x5 x6 x7) (val_main_v276 (F := Ideal) x0 x1 x2 x4 x5 x6 x7) := rfl
  rw [e]
  exact layer_apply (by decide) (by decide) (by decide) (norm_apply Γ)
    (fun k j => (weight_apply 0 x8 _ _ k j).trans (Γ.hW 0 k j)) (input_apply Γ) (input_apply Γ) m r j

/-- After layer 1. -/
theorem net2_apply (m : Fin 3) (r : Fin 1280) (j : Fin 200) :
    val_main_v306 (F := Ideal) x0 x1 x2 x4 x5 x6 x7 x8 (ix2 (node m r) j) = ((net2 (Γ.x r) Γ.w0 Γ.b Γ.W m j : ℝ) : EReal) := by
  have e : val_main_v306 (F := Ideal) x0 x1 x2 x4 x5 x6 x7 x8
    = layerE 0x3E647FBE#32 0x3F32FCDC#32 0x3D9F19A7#32 (val_main_v269 (F := Ideal) x0 x1 x2 x4 x5) (val_main_v300 (F := Ideal) x8)
      (val_main_v276 (F := Ideal) x0 x1 x2 x4 x5 x6 x7) (val_main_v291 (F := Ideal) x0 x1 x2 x4 x5 x6 x7 x8) := rfl
  rw [e]
  exact layer_apply (by decide) (by decide) (by decide) (norm_apply Γ)
    (fun k j => (weight_apply 1 x8 _ _ k j).trans (Γ.hW 1 k j)) (input_apply Γ) (net1_apply Γ) m r j

/-- After layer 2. -/
theorem net3_apply (m : Fin 3) (r : Fin 1280) (j : Fin 200) :
    val_main_v321 (F := Ideal) x0 x1 x2 x4 x5 x6 x7 x8 (ix2 (node m r) j) = ((net3 (Γ.x r) Γ.w0 Γ.b Γ.W m j : ℝ) : EReal) := by
  have e : val_main_v321 (F := Ideal) x0 x1 x2 x4 x5 x6 x7 x8
    = layerE 0x3E1DD9AD#32 0x3F42E239#32 0x3DAD3ADD#32 (val_main_v269 (F := Ideal) x0 x1 x2 x4 x5) (val_main_v315 (F := Ideal) x8)
      (val_main_v276 (F := Ideal) x0 x1 x2 x4 x5 x6 x7) (val_main_v306 (F := Ideal) x0 x1 x2 x4 x5 x6 x7 x8) := rfl
  rw [e]
  exact layer_apply (by decide) (by decide) (by decide) (norm_apply Γ)
    (fun k j => (weight_apply 2 x8 _ _ k j).trans (Γ.hW 2 k j)) (input_apply Γ) (net2_apply Γ) m r j

/-- After layer 3. -/
theorem net4_apply (m : Fin 3) (r : Fin 1280) (j : Fin 200) :
    val_main_v336 (F := Ideal) x0 x1 x2 x4 x5 x6 x7 x8 (ix2 (node m r) j) = ((net4 (Γ.x r) Γ.w0 Γ.b Γ.W m j : ℝ) : EReal) := by
  have e : val_main_v336 (F := Ideal) x0 x1 x2 x4 x5 x6 x7 x8
    = layerE 0x3DF1383B#32 0x3F4B4346#32 0x3DB4AD94#32 (val_main_v269 (F := Ideal) x0 x1 x2 x4 x5) (val_main_v330 (F := Ideal) x8)
      (val_main_v276 (F := Ideal) x0 x1 x2 x4 x5 x6 x7) (val_main_v321 (F := Ideal) x0 x1 x2 x4 x5 x6 x7 x8) := rfl
  rw [e]
  exact layer_apply (by decide) (by decide) (by decide) (norm_apply Γ)
    (fun k j => (weight_apply 3 x8 _ _ k j).trans (Γ.hW 3 k j)) (input_apply Γ) (net3_apply Γ) m r j

/-- Each node's features and its last layer, side by side. -/
theorem both_apply (m : Fin 3) (r : Fin 1280) (k : Fin 400) :
    val_main_v337 (F := Ideal) x0 x1 x2 x4 x5 x6 x7 x8 (ix2 (node m r) k)
      = (((if h : k.val < 200 then Γ.x r m ⟨k.val, h⟩
          else net4 (Γ.x r) Γ.w0 Γ.b Γ.W m ⟨k.val - 200, by have := k.isLt; omega⟩ : ℝ)) : EReal) := by
  unfold val_main_v337
  refine (join_apply _ _ _ (node m r) k).trans ?_
  split
  · exact nodes_apply Γ _ _ _
  · exact net4_apply Γ _ _ _

/-- The three nodes' rows, side by side. -/
theorem result_at (m : Fin 3) (r : Fin 1280) (k : Fin 400) :
    val_main_v341 (F := Ideal) x0 x1 x2 x4 x5 x6 x7 x8 (ix2 r ⟨m.val * 400 + k.val, by omega⟩)
      = val_main_v337 (F := Ideal) x0 x1 x2 x4 x5 x6 x7 x8 (ix2 (node m r) k) := by
  unfold val_main_v341
  refine (spread_apply _ _ _ _ m r k).trans ?_
  have hv : (node m r).val = m.val * 1280 + r.val := rfl
  generalize node m r = R at hv ⊢
  fin_cases m
  · exact (val_main_v338_apply x0 x1 x2 x4 x5 x6 x7 x8 (ix2 r k)).trans
      (congrArg _ (pair_ext (i := idx_main_v338 (ix2 r k)) (j := ix2 R k) (Fin.ext (hv.trans (Nat.zero_add _)).symm) rfl))
  · exact (val_main_v339_apply x0 x1 x2 x4 x5 x6 x7 x8 (ix2 r k)).trans
      (congrArg _ (pair_ext (i := idx_main_v339 (ix2 r k)) (j := ix2 R k) (Fin.ext hv.symm) rfl))
  · exact (val_main_v340_apply x0 x1 x2 x4 x5 x6 x7 x8 (ix2 r k)).trans
      (congrArg _ (pair_ext (i := idx_main_v340 (ix2 r k)) (j := ix2 R k) (Fin.ext hv.symm) rfl))

/-- The result array. -/
theorem result_apply (r : Fin 1280) (j : Fin 1200) :
    val_main_v341 (F := Ideal) x0 x1 x2 x4 x5 x6 x7 x8 (ix2 r j) = ((outR (Γ.x r) Γ.w0 Γ.b Γ.W j : ℝ) : EReal) := by
  have hj : j = ⟨j.val / 400 * 400 + j.val % 400, by omega⟩ := Fin.ext (by show j.val = j.val / 400 * 400 + j.val % 400; omega)
  exact (congrArg (fun q => val_main_v341 (F := Ideal) x0 x1 x2 x4 x5 x6 x7 x8 (ix2 r q)) hj).trans
    ((result_at ⟨j.val / 400, by omega⟩ r ⟨j.val % 400, by omega⟩).trans
      (both_apply Γ ⟨j.val / 400, by omega⟩ r ⟨j.val % 400, by omega⟩))

end Cert.Proof.Ref

end
-- ==== Proof.Pre.lean ====
/-
  The precondition read back: where it holds, the argument arrays hold real numbers, the third feature does after the
  speaker's row is added, and every feature row has a positive sum of squares.
-/
module

public import proofs.«01_k».proof.Pre_tame
public import proofs.«01_k».proof.Proof.Given
public import Idealize.ShloMosaic.Lib.ReduceAll

@[expose] public section

noncomputable section

namespace Cert.Proof.Tame

open Idealize.ShloMosaic Idealize.ShloMosaic.ValueIdx Cert.Pre_tame
open scoped BigOperators

/-- The shape relations the precondition states. -/
instance facts : Cert.Pre_tame.Facts where
  slices_S1x1280x2_S1x1280x1_0_0_1 := by decide
  shapeCasts_S1x1280x1_S1280 := by decide
  slices_S1x1280x2_S1x1280x1_0_0_0 := by decide
  bcast_S1280_S1280x200_0 := by decide
  slices_S3x200_S1x200_1_0 := by decide
  shapeCasts_S1x200_S200 := by decide
  bcast_S200_S1280x200_1 := by decide
  slices_S3x200_S1x200_0_0 := by decide
  bcast_S_S1280x200 := by decide
  reducesTo_S1280x200_S_d0_1 := by decide
  h_S_ := by decide
  bcast_S_S200x200 := by decide
  reducesTo_S200x200_S_d0_1 := by decide
  bcast_S_S200 := by decide
  reducesTo_S200_S_d0 := by decide
  bcast_S_S4x400x200 := by decide
  reducesTo_S4x400x200_S_d0_1_2 := by decide
  reducesTo_S1280x200_S1280_d1 := by decide
  bcast_S_S1280 := by decide
  reducesTo_S1280_S_d0 := by decide

instance : Subsingleton S_.Idx := ⟨fun _ _ => funext fun a => a.elim0⟩

/-- A comparison that came out 1. -/
theorem of_olt {a b : EReal} (h : Ideal.cmp .olt a b = 1#1) : a < b := by
  by_contra n
  simp [Ideal.cmp, n] at h
theorem of_ogt {a b : EReal} (h : Ideal.cmp .ogt a b = 1#1) : b < a := by
  by_contra n
  simp [Ideal.cmp, n] at h

theorem top_bits : Ideal.ofBits .f32 0x7F800000#32 = ⊤ := by simp [Ideal.ofBits, Ideal.ieee]

/-- Every element's absolute value is below infinity. -/
def finiteE (s : Shape) {l : List (Fin s.rank)} (hb : S_.BroadcastsInDim s (![] : Fin 0 → Fin s.rank)) (hr : s.ReducesTo l S_)
    (hu : 0 < S_.numel) (x : FVec Ideal s .f32) : IVec S_ 1 :=
  Host.reduce IntOp.andi (cmpf .olt (Host.absf x) (broadcastInDim s ![] hb (constant (F := Ideal) S_ .f32 0x7F800000#32)))
    (constantI S_ 1 1#1) hr hu

theorem finite_all {s : Shape} {l : List (Fin s.rank)} {hb : S_.BroadcastsInDim s (![] : Fin 0 → Fin s.rank)} {hr : s.ReducesTo l S_}
    {hu : 0 < S_.numel} {x : FVec Ideal s .f32} {j : S_.Idx} (e : finiteE s hb hr hu x j = 1#1) (i : s.Idx) :
    x i = (((x i).toReal : ℝ) : EReal) := by
  have q : max (x i) (-(x i)) < Ideal.ofBits .f32 0x7F800000#32 := of_olt (Host.reduce_andi_all _ _ hr hu j e i)
  rw [top_bits] at q
  obtain ⟨q1, q2⟩ := max_lt_iff.1 q
  refine (EReal.coe_toReal q1.ne ?_).symm
  intro hbot
  rw [hbot] at q2
  simp at q2

/-- Every row's sum of squares is positive. -/
def positiveE (hr : S1280x200.ReducesTo [1] S1280) (hb : S_.BroadcastsInDim S1280 (![] : Fin 0 → Fin S1280.rank))
    (ha : S1280.ReducesTo [0] S_) (hu : 0 < S_.numel) (x : FVec Ideal S1280x200 .f32) : IVec S_ 1 :=
  Host.reduce IntOp.andi (cmpf .ogt (Host.reduceAdd (mulf x x) (constant (F := Ideal) S_ .f32 0x00000000#32) hr hu)
    (broadcastInDim S1280 ![] hb (constant (F := Ideal) S_ .f32 0x00000000#32))) (constantI S_ 1 1#1) ha hu

theorem positive_all {hr : S1280x200.ReducesTo [1] S1280} {hb : S_.BroadcastsInDim S1280 (![] : Fin 0 → Fin S1280.rank)}
    {ha : S1280.ReducesTo [0] S_} {hu : 0 < S_.numel} {x : FVec Ideal S1280x200 .f32} {j : S_.Idx}
    (e : positiveE hr hb ha hu x j = 1#1) {u : Fin 1280 → Fin 200 → ℝ} (hx : ∀ r k, x (ix2 r k) = ((u r k : ℝ) : EReal))
    (r : Fin 1280) : 0 < ∑ k, u r k * u r k := by
  have q : Ideal.ofBits .f32 0x00000000#32
      < Host.reduceAdd (F := Ideal) (mulf x x) (constant (F := Ideal) S_ .f32 0x00000000#32) hr hu (ix1 r) :=
    of_ogt (Host.reduce_andi_all _ _ ha hu j e (ix1 r))
  have s : Host.reduceAdd (F := Ideal) (mulf x x) (constant (F := Ideal) S_ .f32 0x00000000#32) hr hu (ix1 r)
      = Ideal.ofBits .f32 0x00000000#32 + ((∑ k, u r k * u r k : ℝ) : EReal) := by
    simp only [Host.reduceAdd, Ideal.hostReduceAdd_def]
    rw [Ideal.hostReduceAdd_single hr (by decide)]
    refine congrArg (_ + ·) ?_
    rw [← sum_c]
    refine Finset.sum_congr rfl fun k _ => ?_
    refine (congrArg (mulf x x) (funext fun a => Fin.ext (by match a with | ⟨0, _⟩ => rfl | ⟨1, _⟩ => rfl) :
      _ = (ix2 r k : S1280x200.Idx))).trans ?_
    exact (congrArg (fun z => z * z) (hx r k)).trans (EReal.coe_mul _ _).symm
  rw [s, ofBits_lit (b := 0x00000000#32) (by decide), lit_zero, ← EReal.coe_add, zero_add] at q
  exact EReal.coe_lt_coe_iff.1 q

/-- One flag of each utterance. -/
theorem flag_apply {off : Fin 3 → Nat} (z : Fin 2) (ho : off = ![0, 0, z.val]) (hs : S1x1280x2.Slices off S1x1280x1)
    (hc : S1x1280x1.ShapeCasts S1280) (A4 : FVec Ideal S1x1280x2 .f32) (r : Fin 1280) :
    shapeCast S1280 (extractStridedSlice S1x1280x1 off A4 hs) hc (ix1 r) = A4 (ix3 0 r z) := by
  subst ho
  refine (shapeCast_apply _ hc (ix1 r) (ix3 0 r 0) ?_).trans ?_
  · rw [Shape.rowMajor_val_one, Shape.rowMajor_val_three]
    show (0 * 1280 + r.val) * 1 + 0 = r.val
    omega
  · refine extractStridedSlice_apply _ _ _ _ _ fun c => ?_
    match c with
    | ⟨0, _⟩ => rfl
    | ⟨1, _⟩ => exact (Nat.zero_add _).symm
    | ⟨2, _⟩ => rfl

/-- One row of the speaker table, on every row. -/
theorem speaker_apply {off : Fin 2 → Nat} (z : Fin 3) (ho : off = ![z.val, 0]) (hs : S3x200.Slices off S1x200)
    (hc : S1x200.ShapeCasts S200) (hb : S200.BroadcastsInDim S1280x200 (![1] : Fin 1 → Fin S1280x200.rank))
    (A5 : FVec Ideal S3x200 .f32) (r : Fin 1280) (k : Fin 200) :
    broadcastInDim S1280x200 ![1] hb (shapeCast S200 (extractStridedSlice S1x200 off A5 hs) hc) (ix2 r k) = A5 (ix2 z k) := by
  subst ho
  refine (broadcastInDim_apply ![1] hb _ (ix2 r k) (ix1 k) ?_).trans ?_
  · intro c
    match c with
    | ⟨0, _⟩ => rfl
  refine (shapeCast_apply _ hc (ix1 k) (ix2 0 k) ?_).trans ?_
  · rw [Shape.rowMajor_val_one, Shape.rowMajor_val_two]
    show 0 * 200 + k.val = k.val
    omega
  · refine extractStridedSlice_apply _ _ _ _ _ fun c => ?_
    match c with
    | ⟨0, _⟩ => rfl
    | ⟨1, _⟩ => exact (Nat.zero_add _).symm

/-- The third feature with the picked speaker row added, as the precondition spells it. -/
def spokenE (A2 : FVec Ideal S1280x200 .f32) (A4 : FVec Ideal S1x1280x2 .f32) (A5 : FVec Ideal S3x200 .f32) : FVec Ideal S1280x200 .f32 :=
  let p := shapeCast S1280 (extractStridedSlice S1x1280x1 ![0, 0, 0] A4 facts.slices_S1x1280x2_S1x1280x1_0_0_0) facts.shapeCasts_S1x1280x1_S1280
  let q := shapeCast S1280 (extractStridedSlice S1x1280x1 ![0, 0, 1] A4 facts.slices_S1x1280x2_S1x1280x1_0_0_1) facts.shapeCasts_S1x1280x1_S1280
  addf A2 (select (broadcastInDim S1280x200 ![0] facts.bcast_S1280_S1280x200_0 (cmpf .ogt q p))
    (broadcastInDim S1280x200 ![1] facts.bcast_S200_S1280x200_1
      (shapeCast S200 (extractStridedSlice S1x200 ![1, 0] A5 facts.slices_S3x200_S1x200_1_0) facts.shapeCasts_S1x200_S200))
    (broadcastInDim S1280x200 ![1] facts.bcast_S200_S1280x200_1
      (shapeCast S200 (extractStridedSlice S1x200 ![0, 0] A5 facts.slices_S3x200_S1x200_0_0) facts.shapeCasts_S1x200_S200)))

theorem spokenE_apply (A2 : FVec Ideal S1280x200 .f32) (A4 : FVec Ideal S1x1280x2 .f32) (A5 : FVec Ideal S3x200 .f32)
    (r : Fin 1280) (k : Fin 200) :
    spokenE A2 A4 A5 (ix2 r k) = A2 (ix2 r k) + A5 (ix2 (pick (A4 (ix3 0 r 0)) (A4 (ix3 0 r 1))) k) := by
  have c : ∀ (p q : FVec Ideal S1280 .f32), broadcastInDim S1280x200 ![0] facts.bcast_S1280_S1280x200_0 (cmpf .ogt q p) (ix2 r k)
      = Ideal.cmp .ogt (q (ix1 r)) (p (ix1 r)) := fun p q => by
    refine (broadcastInDim_apply ![0] _ _ (ix2 r k) (ix1 r) ?_).trans rfl
    intro c
    match c with
    | ⟨0, _⟩ => rfl
  have l : ∀ (b : IVec S1280x200 1) (y z : FVec Ideal S1280x200 .f32),
      addf A2 (select b y z) (ix2 r k) = A2 (ix2 r k) + Scalar.select (b (ix2 r k)) (y (ix2 r k)) (z (ix2 r k)) := fun _ _ _ => rfl
  refine (l _ _ _).trans (congrArg (A2 (ix2 r k) + ·) ?_)
  rw [c, flag_apply (off := ![0, 0, 1]) 1 rfl, flag_apply (off := ![0, 0, 0]) 0 rfl, speaker_apply (off := ![1, 0]) 1 rfl,
    speaker_apply (off := ![0, 0]) 0 rfl]
  unfold Scalar.select Ideal.cmp pick
  by_cases h : A4 (ix3 0 r 0) < A4 (ix3 0 r 1) <;> simp [h]

/-- Two flags that are both 1. -/
theorem both {a b : IVec S_ 1} {i : S_.Idx} (h : andi a b i = 1#1) : a i = 1#1 ∧ b i = 1#1 := IntOp.andi_eq_one.1 h

/-- Where the precondition holds the arrays are as `Given` says. -/
theorem given {A0 A1 A2 : FVec Ideal S1280x200 .f32} {A3 : IVec S1280 32} {A4 : FVec Ideal S1x1280x2 .f32} {A5 : FVec Ideal S3x200 .f32}
    {A6 : FVec Ideal S200x200 .f32} {A7 : FVec Ideal S200 .f32} {A8 : FVec Ideal S4x400x200 .f32}
    (h : Cert.Pre_tame.fn (F := Ideal) A0 A1 A2 A3 A4 A5 A6 A7 A8 = fun _ => 1#1) : Nonempty (Given A0 A1 A2 A4 A5 A6 A7 A8) := by
  have i : S_.Idx := fun a => a.elim0
  have e := congrFun h i
  unfold fn fn_part1 fn_part2 fn_part3 at e
  obtain ⟨e, p2⟩ := both e
  obtain ⟨e, p1⟩ := both e
  obtain ⟨e, p0⟩ := both e
  obtain ⟨e, f8⟩ := both e
  obtain ⟨e, f7⟩ := both e
  obtain ⟨e, f6⟩ := both e
  obtain ⟨e, f2⟩ := both e
  obtain ⟨f0, f1⟩ := both e
  have g2 : ∀ r k, spokenE A2 A4 A5 (ix2 r k) = (((spokenE A2 A4 A5 (ix2 r k)).toReal : ℝ) : EReal) := fun r k => finite_all f2 (ix2 r k)
  have g0 : ∀ r k, A0 (ix2 r k) = (((A0 (ix2 r k)).toReal : ℝ) : EReal) := fun r k => finite_all f0 (ix2 r k)
  have g1 : ∀ r k, A1 (ix2 r k) = (((A1 (ix2 r k)).toReal : ℝ) : EReal) := fun r k => finite_all f1 (ix2 r k)
  refine ⟨{
    x := fun r => ![fun k => (A0 (ix2 r k)).toReal, fun k => (A1 (ix2 r k)).toReal, fun k => (spokenE A2 A4 A5 (ix2 r k)).toReal]
    w0 := fun k j => (A6 (ix2 k j)).toReal
    b := fun j => (A7 (ix1 j)).toReal
    W := fun l k j => (A8 (ix3 l k j)).toReal
    h0 := g0
    h1 := g1
    h2 := fun r k => (spokenE_apply A2 A4 A5 r k).symm.trans (g2 r k)
    hw0 := fun k j => finite_all f6 (ix2 k j)
    hb := fun j => finite_all f7 (ix1 j)
    hW := fun l k j => finite_all f8 (ix3 l k j)
    pos := fun r m => ?_ }⟩
  fin_cases m
  · exact positive_all p0 g0 r
  · exact positive_all p1 g1 r
  · exact positive_all p2 g2 r

end Cert.Proof.Tame

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelArray
public import proofs.«01_k».proof.Proof.RefResult
public import proofs.«01_k».proof.Proof.Pre
public import Idealize.ShloMosaic.Adequacy
public import Idealize.ShloMosaic.Init

@[expose] public section

noncomputable section

namespace Cert.Proof

open Idealize.ShloMosaic Idealize.SL.Sem

/-- The reference runs and keeps its arguments: it has no semaphores, and its run names the arguments. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array is the reference's, on arguments that agree and satisfy the precondition. -/
theorem algebraic : Cert.algebraic_KernelIdeal_ReferenceIdeal_pre_tame (hKernelIdeal := Cert.KernelIdeal.Gen.facts)
    (hReferenceIdeal := Cert.ReferenceIdeal.Gen.facts) (hPre_tame := Tame.facts) := by
  intro m ρ m' ρ' hpre hagree
  refine ⟨fun c => Cert.KernelIdeal.Value.G8 m c, Cert.KernelIdeal.Value.run (F := Ideal) m ρ, ?_⟩
  refine (θ_run Cert.ReferenceIdeal.defs _ _).mono (fun r h c => ⟨((h c).1.trans
    (Cert.ReferenceIdeal.Read.val_main_v341_eq (F := Ideal) _)).trans ?_, (h c).2⟩) (Cert.ReferenceIdeal.Value.run (F := Ideal) m' ρ')
  obtain ⟨a0, a1, a2, -, a4, a5, a6, a7, a8⟩ := hagree c
  obtain ⟨Γ⟩ := Tame.given (hpre c)
  show Cert.ReferenceIdeal.Read.val_main_v341 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8)) = _
  rw [a0, a1, a2, a4, a5, a6, a7, a8]
  funext i
  obtain ⟨r, j, rfl⟩ : ∃ (r : Fin 1280) (j : Fin 1200), i = ValueIdx.ix2 r j := ⟨i 0, i 1, ValueIdx.eq_ix2 i⟩
  exact (Ref.result_apply Γ r j).trans (Block.result_apply m c Γ r j).symm

theorem claim : Cert.Claim :=
  ⟨Cert.Kernel.Gen.facts, Cert.KernelIdeal.Gen.facts, Cert.ReferenceIdeal.Gen.facts, Tame.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
